-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x8192 : Shape := ⟨2, ![4096, 8192]⟩
abbrev S1 : Shape := ⟨1, ![1]⟩
abbrev S4096x1024 : Shape := ⟨2, ![4096, 1024]⟩
abbrev S2x256x4096 : Shape := ⟨3, ![2, 256, 4096]⟩
abbrev S2x1024x1024 : Shape := ⟨3, ![2, 1024, 1024]⟩
abbrev S256x4096 : Shape := ⟨2, ![256, 4096]⟩
abbrev S2 : Shape := ⟨1, ![2]⟩
abbrev S4 : Shape := ⟨1, ![4]⟩
abbrev S5 : Shape := ⟨1, ![5]⟩
abbrev S_ : Shape := ⟨0, ![]⟩
abbrev S1x1024x1024 : Shape := ⟨3, ![1, 1024, 1024]⟩
abbrev S1024x1024 : Shape := ⟨2, ![1024, 1024]⟩
abbrev S1x256x4096 : Shape := ⟨3, ![1, 256, 4096]⟩
abbrev S256x1024 : Shape := ⟨2, ![256, 1024]⟩

abbrev nBuf : Space → Nat
  | .hbm => 5
  | .vmem => 13
  | .smem => 2
  | _ => 0

abbrev bufTy : (tb : Table) → Fin (tcTables nBuf tb) → BufTy
  | .hbm, ⟨0, _⟩ => ⟨S512x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x1024, .f32⟩
  | .local _ .vmem, ⟨0, _⟩ => ⟨S4096x1024, .f32⟩
  | .local _ .vmem, ⟨1, _⟩ => ⟨S512x4096, .f32⟩
  | .local _ .vmem, ⟨2, _⟩ => ⟨S2x256x4096, .fp8e4m3⟩
  | .local _ .vmem, ⟨3, _⟩ => ⟨S4096x1024, .fp8e4m3⟩
  | .local _ .vmem, ⟨4, _⟩ => ⟨S2x1024x1024, .f32⟩
  | .local _ .vmem, ⟨5, _⟩ => ⟨S2x256x4096, .fp8e4m3⟩
  | .local _ .vmem, ⟨6, _⟩ => ⟨S2x256x4096, .fp8e4m3⟩
  | .local _ .vmem, ⟨7, _⟩ => ⟨S2x256x4096, .fp8e4m3⟩
  | .local _ .vmem, ⟨8, _⟩ => ⟨S2x256x4096, .fp8e4m3⟩
  | .local _ .vmem, ⟨9, _⟩ => ⟨S2x256x4096, .fp8e4m3⟩
  | .local _ .vmem, ⟨10, _⟩ => ⟨S2x256x4096, .fp8e4m3⟩
  | .local _ .vmem, ⟨11, _⟩ => ⟨S256x4096, .fp8e4m3⟩
  | .local _ .vmem, ⟨12, _⟩ => ⟨S256x4096, .fp8e4m3⟩
  | .local _ .smem, ⟨0, _⟩ => ⟨S1, .f32⟩
  | .local _ .smem, ⟨1, _⟩ => ⟨S1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_mult1 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v31 : BitVec 32 := Scalar.muli v2 c1024_i32
  v31
def k0_off1 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v31 : BitVec 32 := Scalar.muli v2 c1024_i32
  let v32 : BitVec 32 := v31
  ![0, v32.toNat]
def k0_dev1 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v12 : BitVec 32 := Scalar.addi v8 v11
  let c16_i32 : BitVec 32 := 16#32
  let v13 : BitVec 32 := Scalar.addi v12 c16_i32
  let c8_i32_3 : BitVec 32 := 8#32
  let v14 : BitVec 32 := Scalar.remsi v13 c8_i32_3
  let c4_i32_4 : BitVec 32 := 4#32
  let v15 : BitVec 1 := Scalar.cmpi .slt v14 c4_i32_4
  let c11_i32_5 : BitVec 32 := 11#32
  let v16 : BitVec 32 := Scalar.subi c11_i32_5 v14
  let v17 : BitVec 32 := Scalar.select v15 v14 v16
  let c1_i32_38 : BitVec 32 := 1#32
  let v56 : BitVec 32 := Scalar.muli v17 c1_i32_38
  let v57 : BitVec 32 := Scalar.addi c0_i32_39 v56
  v57.toNat
def k0_dev2 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v18 : BitVec 32 := Scalar.subi v8 v11
  let c16_i32_6 : BitVec 32 := 16#32
  let v19 : BitVec 32 := Scalar.addi v18 c16_i32_6
  let c8_i32_7 : BitVec 32 := 8#32
  let v20 : BitVec 32 := Scalar.remsi v19 c8_i32_7
  let c4_i32_8 : BitVec 32 := 4#32
  let v21 : BitVec 1 := Scalar.cmpi .slt v20 c4_i32_8
  let c11_i32_9 : BitVec 32 := 11#32
  let v22 : BitVec 32 := Scalar.subi c11_i32_9 v20
  let v23 : BitVec 32 := Scalar.select v21 v20 v22
  let c1_i32_41 : BitVec 32 := 1#32
  let v58 : BitVec 32 := Scalar.muli v23 c1_i32_41
  let v59 : BitVec 32 := Scalar.addi c0_i32_42 v58
  v59.toNat
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c3_i32 : BitVec 32 := 3#32
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v24 : BitVec 32 := Scalar.muli c3_i32 v11
  let v25 : BitVec 32 := Scalar.addi v8 v24
  let c16_i32_10 : BitVec 32 := 16#32
  let v26 : BitVec 32 := Scalar.addi v25 c16_i32_10
  let c8_i32_11 : BitVec 32 := 8#32
  let v27 : BitVec 32 := Scalar.remsi v26 c8_i32_11
  let c4_i32_12 : BitVec 32 := 4#32
  let v28 : BitVec 1 := Scalar.cmpi .slt v27 c4_i32_12
  let c11_i32_13 : BitVec 32 := 11#32
  let v29 : BitVec 32 := Scalar.subi c11_i32_13 v27
  let v30 : BitVec 32 := Scalar.select v28 v27 v29
  let c1_i32_44 : BitVec 32 := 1#32
  let v60 : BitVec 32 := Scalar.muli v30 c1_i32_44
  let v61 : BitVec 32 := Scalar.addi c0_i32_45 v60
  v61.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v12 : BitVec 32 := Scalar.addi v8 v11
  let c16_i32 : BitVec 32 := 16#32
  let v13 : BitVec 32 := Scalar.addi v12 c16_i32
  let c8_i32_3 : BitVec 32 := 8#32
  let v14 : BitVec 32 := Scalar.remsi v13 c8_i32_3
  let c4_i32_4 : BitVec 32 := 4#32
  let v15 : BitVec 1 := Scalar.cmpi .slt v14 c4_i32_4
  let c11_i32_5 : BitVec 32 := 11#32
  let v16 : BitVec 32 := Scalar.subi c11_i32_5 v14
  let v17 : BitVec 32 := Scalar.select v15 v14 v16
  let c1_i32_51 : BitVec 32 := 1#32
  let v62 : BitVec 32 := Scalar.muli v17 c1_i32_51
  let v63 : BitVec 32 := Scalar.addi c0_i32_52 v62
  v63.toNat
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v18 : BitVec 32 := Scalar.subi v8 v11
  let c16_i32_6 : BitVec 32 := 16#32
  let v19 : BitVec 32 := Scalar.addi v18 c16_i32_6
  let c8_i32_7 : BitVec 32 := 8#32
  let v20 : BitVec 32 := Scalar.remsi v19 c8_i32_7
  let c4_i32_8 : BitVec 32 := 4#32
  let v21 : BitVec 1 := Scalar.cmpi .slt v20 c4_i32_8
  let c11_i32_9 : BitVec 32 := 11#32
  let v22 : BitVec 32 := Scalar.subi c11_i32_9 v20
  let v23 : BitVec 32 := Scalar.select v21 v20 v22
  let c1_i32_61 : BitVec 32 := 1#32
  let v72 : BitVec 32 := Scalar.muli v23 c1_i32_61
  let v73 : BitVec 32 := Scalar.addi c0_i32_62 v72
  v73.toNat
def k0_dev6 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c3_i32 : BitVec 32 := 3#32
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v24 : BitVec 32 := Scalar.muli c3_i32 v11
  let v25 : BitVec 32 := Scalar.addi v8 v24
  let c16_i32_10 : BitVec 32 := 16#32
  let v26 : BitVec 32 := Scalar.addi v25 c16_i32_10
  let c8_i32_11 : BitVec 32 := 8#32
  let v27 : BitVec 32 := Scalar.remsi v26 c8_i32_11
  let c4_i32_12 : BitVec 32 := 4#32
  let v28 : BitVec 1 := Scalar.cmpi .slt v27 c4_i32_12
  let c11_i32_13 : BitVec 32 := 11#32
  let v29 : BitVec 32 := Scalar.subi c11_i32_13 v27
  let v30 : BitVec 32 := Scalar.select v28 v27 v29
  let c1_i32_71 : BitVec 32 := 1#32
  let v82 : BitVec 32 := Scalar.muli v30 c1_i32_71
  let v83 : BitVec 32 := Scalar.addi c0_i32_72 v82
  v83.toNat
def k0_dev7 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v12 : BitVec 32 := Scalar.addi v8 v11
  let c16_i32 : BitVec 32 := 16#32
  let v13 : BitVec 32 := Scalar.addi v12 c16_i32
  let c8_i32_3 : BitVec 32 := 8#32
  let v14 : BitVec 32 := Scalar.remsi v13 c8_i32_3
  let c4_i32_4 : BitVec 32 := 4#32
  let v15 : BitVec 1 := Scalar.cmpi .slt v14 c4_i32_4
  let c11_i32_5 : BitVec 32 := 11#32
  let v16 : BitVec 32 := Scalar.subi c11_i32_5 v14
  let v17 : BitVec 32 := Scalar.select v15 v14 v16
  let c1_i32_89 : BitVec 32 := 1#32
  let v101 : BitVec 32 := Scalar.muli v17 c1_i32_89
  let v102 : BitVec 32 := Scalar.addi c0_i32_90 v101
  v102.toNat
def k0_dev8 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v18 : BitVec 32 := Scalar.subi v8 v11
  let c16_i32_6 : BitVec 32 := 16#32
  let v19 : BitVec 32 := Scalar.addi v18 c16_i32_6
  let c8_i32_7 : BitVec 32 := 8#32
  let v20 : BitVec 32 := Scalar.remsi v19 c8_i32_7
  let c4_i32_8 : BitVec 32 := 4#32
  let v21 : BitVec 1 := Scalar.cmpi .slt v20 c4_i32_8
  let c11_i32_9 : BitVec 32 := 11#32
  let v22 : BitVec 32 := Scalar.subi c11_i32_9 v20
  let v23 : BitVec 32 := Scalar.select v21 v20 v22
  let c1_i32_99 : BitVec 32 := 1#32
  let v111 : BitVec 32 := Scalar.muli v23 c1_i32_99
  let v112 : BitVec 32 := Scalar.addi c0_i32_100 v111
  v112.toNat
def k0_dev9 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c3_i32 : BitVec 32 := 3#32
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v24 : BitVec 32 := Scalar.muli c3_i32 v11
  let v25 : BitVec 32 := Scalar.addi v8 v24
  let c16_i32_10 : BitVec 32 := 16#32
  let v26 : BitVec 32 := Scalar.addi v25 c16_i32_10
  let c8_i32_11 : BitVec 32 := 8#32
  let v27 : BitVec 32 := Scalar.remsi v26 c8_i32_11
  let c4_i32_12 : BitVec 32 := 4#32
  let v28 : BitVec 1 := Scalar.cmpi .slt v27 c4_i32_12
  let c11_i32_13 : BitVec 32 := 11#32
  let v29 : BitVec 32 := Scalar.subi c11_i32_13 v27
  let v30 : BitVec 32 := Scalar.select v28 v27 v29
  let c1_i32_109 : BitVec 32 := 1#32
  let v121 : BitVec 32 := Scalar.muli v30 c1_i32_109
  let v122 : BitVec 32 := Scalar.addi c0_i32_110 v121
  v122.toNat
def k0_off2 (d0 : Dev nD) : Fin 2 → Nat :=
  let c1024_i32_119 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v31 : BitVec 32 := Scalar.muli v2 c1024_i32
  let v32 : BitVec 32 := v31
  ![1024, v32.toNat]
def k0_off3 (d0 : Dev nD) : Fin 2 → Nat :=
  let c2048_i32 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v31 : BitVec 32 := Scalar.muli v2 c1024_i32
  let v32 : BitVec 32 := v31
  ![2048, v32.toNat]
def k0_off4 (d0 : Dev nD) : Fin 2 → Nat :=
  let c3072_i32 : BitVec 32 := 3072#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v31 : BitVec 32 := Scalar.muli v2 c1024_i32
  let v32 : BitVec 32 := v31
  ![3072, v32.toNat]
def k0_dev10 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v12 : BitVec 32 := Scalar.addi v8 v11
  let c16_i32 : BitVec 32 := 16#32
  let v13 : BitVec 32 := Scalar.addi v12 c16_i32
  let c8_i32_3 : BitVec 32 := 8#32
  let v14 : BitVec 32 := Scalar.remsi v13 c8_i32_3
  let c4_i32_4 : BitVec 32 := 4#32
  let v15 : BitVec 1 := Scalar.cmpi .slt v14 c4_i32_4
  let c11_i32_5 : BitVec 32 := 11#32
  let v16 : BitVec 32 := Scalar.subi c11_i32_5 v14
  let v17 : BitVec 32 := Scalar.select v15 v14 v16
  let c1_i32_212 : BitVec 32 := 1#32
  let v244 : BitVec 32 := Scalar.muli v17 c1_i32_212
  let v245 : BitVec 32 := Scalar.addi c0_i32_213 v244
  v245.toNat
def k0_dev11 (d0 : Dev nD) : Nat :=
  let c0_i32_223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c3_i32 : BitVec 32 := 3#32
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v24 : BitVec 32 := Scalar.muli c3_i32 v11
  let v25 : BitVec 32 := Scalar.addi v8 v24
  let c16_i32_10 : BitVec 32 := 16#32
  let v26 : BitVec 32 := Scalar.addi v25 c16_i32_10
  let c8_i32_11 : BitVec 32 := 8#32
  let v27 : BitVec 32 := Scalar.remsi v26 c8_i32_11
  let c4_i32_12 : BitVec 32 := 4#32
  let v28 : BitVec 1 := Scalar.cmpi .slt v27 c4_i32_12
  let c11_i32_13 : BitVec 32 := 11#32
  let v29 : BitVec 32 := Scalar.subi c11_i32_13 v27
  let v30 : BitVec 32 := Scalar.select v28 v27 v29
  let c1_i32_222 : BitVec 32 := 1#32
  let v254 : BitVec 32 := Scalar.muli v30 c1_i32_222
  let v255 : BitVec 32 := Scalar.addi c0_i32_223 v254
  v255.toNat
def k0_dev12 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v18 : BitVec 32 := Scalar.subi v8 v11
  let c16_i32_6 : BitVec 32 := 16#32
  let v19 : BitVec 32 := Scalar.addi v18 c16_i32_6
  let c8_i32_7 : BitVec 32 := 8#32
  let v20 : BitVec 32 := Scalar.remsi v19 c8_i32_7
  let c4_i32_8 : BitVec 32 := 4#32
  let v21 : BitVec 1 := Scalar.cmpi .slt v20 c4_i32_8
  let c11_i32_9 : BitVec 32 := 11#32
  let v22 : BitVec 32 := Scalar.subi c11_i32_9 v20
  let v23 : BitVec 32 := Scalar.select v21 v20 v22
  let c1_i32_242 : BitVec 32 := 1#32
  let v272 : BitVec 32 := Scalar.muli v23 c1_i32_242
  let v273 : BitVec 32 := Scalar.addi c0_i32_243 v272
  v273.toNat
def k0_off5 (d0 : Dev nD) (c0_i32_253 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v286 : BitVec 32 := Scalar.muli v2 c512_i32
  let v287 : BitVec 32 := Scalar.addi v286 c0_i32_253
  let v292 : Index := Scalar.indexCast v287
  let c0_255 : Index := 0#32
  ![v292.toNat, 0]
def k0_dev13 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v12 : BitVec 32 := Scalar.addi v8 v11
  let c16_i32 : BitVec 32 := 16#32
  let v13 : BitVec 32 := Scalar.addi v12 c16_i32
  let c8_i32_3 : BitVec 32 := 8#32
  let v14 : BitVec 32 := Scalar.remsi v13 c8_i32_3
  let c4_i32_4 : BitVec 32 := 4#32
  let v15 : BitVec 1 := Scalar.cmpi .slt v14 c4_i32_4
  let c11_i32_5 : BitVec 32 := 11#32
  let v16 : BitVec 32 := Scalar.subi c11_i32_5 v14
  let v17 : BitVec 32 := Scalar.select v15 v14 v16
  let c1_i32_280 : BitVec 32 := 1#32
  let v314 : BitVec 32 := Scalar.muli v17 c1_i32_280
  let v315 : BitVec 32 := Scalar.addi c0_i32_281 v314
  v315.toNat
def k0_dev14 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c3_i32 : BitVec 32 := 3#32
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v24 : BitVec 32 := Scalar.muli c3_i32 v11
  let v25 : BitVec 32 := Scalar.addi v8 v24
  let c16_i32_10 : BitVec 32 := 16#32
  let v26 : BitVec 32 := Scalar.addi v25 c16_i32_10
  let c8_i32_11 : BitVec 32 := 8#32
  let v27 : BitVec 32 := Scalar.remsi v26 c8_i32_11
  let c4_i32_12 : BitVec 32 := 4#32
  let v28 : BitVec 1 := Scalar.cmpi .slt v27 c4_i32_12
  let c11_i32_13 : BitVec 32 := 11#32
  let v29 : BitVec 32 := Scalar.subi c11_i32_13 v27
  let v30 : BitVec 32 := Scalar.select v28 v27 v29
  let c1_i32_290 : BitVec 32 := 1#32
  let v324 : BitVec 32 := Scalar.muli v30 c1_i32_290
  let v325 : BitVec 32 := Scalar.addi c0_i32_291 v324
  v325.toNat
def k0_dev15 (d0 : Dev nD) : Nat :=
  let c0_i32_311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v18 : BitVec 32 := Scalar.subi v8 v11
  let c16_i32_6 : BitVec 32 := 16#32
  let v19 : BitVec 32 := Scalar.addi v18 c16_i32_6
  let c8_i32_7 : BitVec 32 := 8#32
  let v20 : BitVec 32 := Scalar.remsi v19 c8_i32_7
  let c4_i32_8 : BitVec 32 := 4#32
  let v21 : BitVec 1 := Scalar.cmpi .slt v20 c4_i32_8
  let c11_i32_9 : BitVec 32 := 11#32
  let v22 : BitVec 32 := Scalar.subi c11_i32_9 v20
  let v23 : BitVec 32 := Scalar.select v21 v20 v22
  let c1_i32_310 : BitVec 32 := 1#32
  let v342 : BitVec 32 := Scalar.muli v23 c1_i32_310
  let v343 : BitVec 32 := Scalar.addi c0_i32_311 v342
  v343.toNat
def k0_off6 (d0 : Dev nD) (c0_i32_333 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v190 : BitVec 32 := Scalar.subi v8 v11
  let c16_i32_165 : BitVec 32 := 16#32
  let v191 : BitVec 32 := Scalar.addi v190 c16_i32_165
  let c8_i32_166 : BitVec 32 := 8#32
  let v192 : BitVec 32 := Scalar.remsi v191 c8_i32_166
  let c4_i32_167 : BitVec 32 := 4#32
  let v193 : BitVec 1 := Scalar.cmpi .slt v192 c4_i32_167
  let c11_i32_168 : BitVec 32 := 11#32
  let v194 : BitVec 32 := Scalar.subi c11_i32_168 v192
  let v195 : BitVec 32 := Scalar.select v193 v192 v194
  let c512_i32_332 : BitVec 32 := 512#32
  let v364 : BitVec 32 := Scalar.muli v195 c512_i32_332
  let v365 : BitVec 32 := Scalar.addi v364 c0_i32_333
  let v370 : Index := Scalar.indexCast v365
  let c0_335 : Index := 0#32
  ![v370.toNat, 0]
def k0_off7 (d0 : Dev nD) (c0_i32_343 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v210 : BitVec 32 := Scalar.addi v8 v11
  let c16_i32_179 : BitVec 32 := 16#32
  let v211 : BitVec 32 := Scalar.addi v210 c16_i32_179
  let c8_i32_180 : BitVec 32 := 8#32
  let v212 : BitVec 32 := Scalar.remsi v211 c8_i32_180
  let c4_i32_181 : BitVec 32 := 4#32
  let v213 : BitVec 1 := Scalar.cmpi .slt v212 c4_i32_181
  let c11_i32_182 : BitVec 32 := 11#32
  let v214 : BitVec 32 := Scalar.subi c11_i32_182 v212
  let v215 : BitVec 32 := Scalar.select v213 v212 v214
  let c512_i32_342 : BitVec 32 := 512#32
  let v376 : BitVec 32 := Scalar.muli v215 c512_i32_342
  let v377 : BitVec 32 := Scalar.addi v376 c0_i32_343
  let v382 : Index := Scalar.indexCast v377
  let c0_345 : Index := 0#32
  ![v382.toNat, 0]
def k0_off8 (d0 : Dev nD) (c3_i32_188 : BitVec 32) (c0_i32_353 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v223 : BitVec 32 := Scalar.muli c3_i32_188 v11
  let v224 : BitVec 32 := Scalar.addi v8 v223
  let c16_i32_189 : BitVec 32 := 16#32
  let v225 : BitVec 32 := Scalar.addi v224 c16_i32_189
  let c8_i32_190 : BitVec 32 := 8#32
  let v226 : BitVec 32 := Scalar.remsi v225 c8_i32_190
  let c4_i32_191 : BitVec 32 := 4#32
  let v227 : BitVec 1 := Scalar.cmpi .slt v226 c4_i32_191
  let c11_i32_192 : BitVec 32 := 11#32
  let v228 : BitVec 32 := Scalar.subi c11_i32_192 v226
  let v229 : BitVec 32 := Scalar.select v227 v226 v228
  let c512_i32_352 : BitVec 32 := 512#32
  let v388 : BitVec 32 := Scalar.muli v229 c512_i32_352
  let v389 : BitVec 32 := Scalar.addi v388 c0_i32_353
  let v394 : Index := Scalar.indexCast v389
  let c0_355 : Index := 0#32
  ![v394.toNat, 0]
def k0_dev16 (d0 : Dev nD) : Nat :=
  let c0_i32_370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v18 : BitVec 32 := Scalar.subi v8 v11
  let c16_i32_6 : BitVec 32 := 16#32
  let v19 : BitVec 32 := Scalar.addi v18 c16_i32_6
  let c8_i32_7 : BitVec 32 := 8#32
  let v20 : BitVec 32 := Scalar.remsi v19 c8_i32_7
  let c4_i32_8 : BitVec 32 := 4#32
  let v21 : BitVec 1 := Scalar.cmpi .slt v20 c4_i32_8
  let c11_i32_9 : BitVec 32 := 11#32
  let v22 : BitVec 32 := Scalar.subi c11_i32_9 v20
  let v23 : BitVec 32 := Scalar.select v21 v20 v22
  let c1_i32_369 : BitVec 32 := 1#32
  let v404 : BitVec 32 := Scalar.muli v23 c1_i32_369
  let v405 : BitVec 32 := Scalar.addi c0_i32_370 v404
  v405.toNat
def k0_dev17 (d0 : Dev nD) : Nat :=
  let c0_i32_437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c3_i32 : BitVec 32 := 3#32
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v24 : BitVec 32 := Scalar.muli c3_i32 v11
  let v25 : BitVec 32 := Scalar.addi v8 v24
  let c16_i32_10 : BitVec 32 := 16#32
  let v26 : BitVec 32 := Scalar.addi v25 c16_i32_10
  let c8_i32_11 : BitVec 32 := 8#32
  let v27 : BitVec 32 := Scalar.remsi v26 c8_i32_11
  let c4_i32_12 : BitVec 32 := 4#32
  let v28 : BitVec 1 := Scalar.cmpi .slt v27 c4_i32_12
  let c11_i32_13 : BitVec 32 := 11#32
  let v29 : BitVec 32 := Scalar.subi c11_i32_13 v27
  let v30 : BitVec 32 := Scalar.select v28 v27 v29
  let c1_i32_436 : BitVec 32 := 1#32
  let v476 : BitVec 32 := Scalar.muli v30 c1_i32_436
  let v477 : BitVec 32 := Scalar.addi c0_i32_437 v476
  v477.toNat
def k0_off9 (d0 : Dev nD) (c2_i32_169 : BitVec 32) (c0_i32_467 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c1_i32_2 : BitVec 32 := 1#32
  let c2_i32_1 : BitVec 32 := 2#32
  let c2_i32 : BitVec 32 := 2#32
  let v9 : BitVec 32 := Scalar.remsi v8 c2_i32
  let v10 : BitVec 32 := Scalar.muli c2_i32_1 v9
  let v11 : BitVec 32 := Scalar.subi c1_i32_2 v10
  let v196 : BitVec 32 := Scalar.muli c2_i32_169 v11
  let v197 : BitVec 32 := Scalar.subi v8 v196
  let c16_i32_170 : BitVec 32 := 16#32
  let v198 : BitVec 32 := Scalar.addi v197 c16_i32_170
  let c8_i32_171 : BitVec 32 := 8#32
  let v199 : BitVec 32 := Scalar.remsi v198 c8_i32_171
  let c4_i32_172 : BitVec 32 := 4#32
  let v200 : BitVec 1 := Scalar.cmpi .slt v199 c4_i32_172
  let c11_i32_173 : BitVec 32 := 11#32
  let v201 : BitVec 32 := Scalar.subi c11_i32_173 v199
  let v202 : BitVec 32 := Scalar.select v200 v199 v201
  let c512_i32_466 : BitVec 32 := 512#32
  let v504 : BitVec 32 := Scalar.muli v202 c512_i32_466
  let v505 : BitVec 32 := Scalar.addi v504 c0_i32_467
  let v510 : Index := Scalar.indexCast v505
  let c0_469 : Index := 0#32
  ![v510.toNat, 0]
def k0_off10 (d0 : Dev nD) (c0_i32_477 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 1 := Scalar.cmpi .slt v2 c4_i32
  let c11_i32 : BitVec 32 := 11#32
  let v7 : BitVec 32 := Scalar.subi c11_i32 v2
  let v8 : BitVec 32 := Scalar.select v6 v2 v7
  let c4_i32_193 : BitVec 32 := 4#32
  let v230 : BitVec 32 := Scalar.addi v8 c4_i32_193
  let c16_i32_194 : BitVec 32 := 16#32
  let v231 : BitVec 32 := Scalar.addi v230 c16_i32_194
  let c8_i32_195 : BitVec 32 := 8#32
  let v232 : BitVec 32 := Scalar.remsi v231 c8_i32_195
  let c4_i32_196 : BitVec 32 := 4#32
  let v233 : BitVec 1 := Scalar.cmpi .slt v232 c4_i32_196
  let c11_i32_197 : BitVec 32 := 11#32
  let v234 : BitVec 32 := Scalar.subi c11_i32_197 v232
  let v235 : BitVec 32 := Scalar.select v233 v232 v234
  let c512_i32_476 : BitVec 32 := 512#32
  let v516 : BitVec 32 := Scalar.muli v235 c512_i32_476
  let v517 : BitVec 32 := Scalar.addi v516 c0_i32_477
  let v522 : Index := Scalar.indexCast v517
  let c0_479 : Index := 0#32
  ![v522.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Channels.lean ====
/-
The eight devices as a ring with chords, and the fourteen copies every device starts towards its three partners.

A device `c` has three partners, each relation its own inverse: `M c` and `N c` are the neighbours on the two sides of
the ring, `S c` is the device three steps away. All copies move a half of some device's block (256 of its 512 rows,
rounded to eight bits) between two slots of the same shape; a copy is named by a channel.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Partners -/

/-- The three sides on which a device has a partner. -/
inductive Side | maj | min | sh
deriving DecidableEq

instance : Fintype Side := ⟨{.maj, .min, .sh}, fun x => by cases x <;> decide⟩

/-- The partner of device `c` on a side. -/
def nb : Side → Dev nD → Dev nD
  | .maj, c => ![1, 0, 3, 2, 5, 4, 7, 6] c
  | .min, c => ![4, 2, 1, 7, 0, 6, 5, 3] c
  | .sh, c => ![3, 5, 6, 0, 7, 1, 2, 4] c

/-- Being partners is symmetric. -/
theorem nb_nb (s : Side) (c : Dev nD) : nb s (nb s c) = c := by revert s c; decide

/-- The partner relation of a side as a permutation of the devices. -/
def nbEquiv (s : Side) : Dev nD ≃ Dev nD := ⟨nb s, nb s, nb_nb s, nb_nb s⟩

/-- The kernel's three barrier signals go to the three partners. -/
theorem dev1_eq (c : Dev nD) : (⟨k0_dev1 c, k0_dev1_lt c⟩ : Dev nD) = nb .maj c := by revert c; decide +kernel
/-- The second barrier signal. -/
theorem dev2_eq (c : Dev nD) : (⟨k0_dev2 c, k0_dev2_lt c⟩ : Dev nD) = nb .min c := by revert c; decide +kernel
/-- The third barrier signal. -/
theorem dev3_eq (c : Dev nD) : (⟨k0_dev3 c, k0_dev3_lt c⟩ : Dev nD) = nb .sh c := by revert c; decide +kernel

/-- Its fourteen copies go to the partners as follows, in the order of the program. -/
theorem dev4_eq (c : Dev nD) : (⟨k0_dev4 c, k0_dev4_lt c⟩ : Dev nD) = nb .maj c := by revert c; decide +kernel
/-- Copy 2. -/
theorem dev5_eq (c : Dev nD) : (⟨k0_dev5 c, k0_dev5_lt c⟩ : Dev nD) = nb .min c := by revert c; decide +kernel
/-- Copy 3. -/
theorem dev6_eq (c : Dev nD) : (⟨k0_dev6 c, k0_dev6_lt c⟩ : Dev nD) = nb .sh c := by revert c; decide +kernel
/-- Copy 4. -/
theorem dev7_eq (c : Dev nD) : (⟨k0_dev7 c, k0_dev7_lt c⟩ : Dev nD) = nb .maj c := by revert c; decide +kernel
/-- Copy 5. -/
theorem dev8_eq (c : Dev nD) : (⟨k0_dev8 c, k0_dev8_lt c⟩ : Dev nD) = nb .min c := by revert c; decide +kernel
/-- Copy 6. -/
theorem dev9_eq (c : Dev nD) : (⟨k0_dev9 c, k0_dev9_lt c⟩ : Dev nD) = nb .sh c := by revert c; decide +kernel
/-- Copy 7. -/
theorem dev10_eq (c : Dev nD) : (⟨k0_dev10 c, k0_dev10_lt c⟩ : Dev nD) = nb .maj c := by revert c; decide +kernel
/-- Copy 8. -/
theorem dev11_eq (c : Dev nD) : (⟨k0_dev11 c, k0_dev11_lt c⟩ : Dev nD) = nb .sh c := by revert c; decide +kernel
/-- Copy 9. -/
theorem dev12_eq (c : Dev nD) : (⟨k0_dev12 c, k0_dev12_lt c⟩ : Dev nD) = nb .min c := by revert c; decide +kernel
/-- Copy 10. -/
theorem dev13_eq (c : Dev nD) : (⟨k0_dev13 c, k0_dev13_lt c⟩ : Dev nD) = nb .maj c := by revert c; decide +kernel
/-- Copy 11. -/
theorem dev14_eq (c : Dev nD) : (⟨k0_dev14 c, k0_dev14_lt c⟩ : Dev nD) = nb .sh c := by revert c; decide +kernel
/-- Copy 12. -/
theorem dev15_eq (c : Dev nD) : (⟨k0_dev15 c, k0_dev15_lt c⟩ : Dev nD) = nb .min c := by revert c; decide +kernel
/-- Copy 13. -/
theorem dev16_eq (c : Dev nD) : (⟨k0_dev16 c, k0_dev16_lt c⟩ : Dev nD) = nb .min c := by revert c; decide +kernel
/-- Copy 14. -/
theorem dev17_eq (c : Dev nD) : (⟨k0_dev17 c, k0_dev17_lt c⟩ : Dev nD) = nb .sh c := by revert c; decide +kernel

/-! ## Channels -/

/-- The fourteen copies of a device: the letter before the digit is the half of the block that travels (`T` top, `B`
    bottom), the digit the hop; the two `…2` channels are the last hops, which move one half only. -/
inductive Ch
  | majT0 | majB0 | majT1 | majB1
  | minT0 | minB0 | minT1 | minB1 | minT2
  | shT0 | shB0 | shT1 | shB1 | shB2
deriving DecidableEq

/-- The channels in a list, in the order in which a device starts its copies. -/
abbrev chans : List Ch :=
  [.majT0, .minT0, .shT0, .majB0, .minB0, .shB0, .majT1, .shT1, .minT1, .majB1, .shB1, .minB1, .minT2, .shB2]

instance : Fintype Ch := ⟨⟨chans, by decide⟩, fun x => by cases x <;> decide⟩

/-- The side on which the channel's receiver lies. -/
@[reducible] def side : Ch → Side
  | .majT0 | .majB0 | .majT1 | .majB1 => .maj
  | .minT0 | .minB0 | .minT1 | .minB1 | .minT2 => .min
  | .shT0 | .shB0 | .shT1 | .shB1 | .shB2 => .sh

/-- Whether the half that travels is the bottom one. -/
@[reducible] def bot : Ch → Fin 2
  | .majT0 | .majT1 | .minT0 | .minT1 | .minT2 | .shT0 | .shT1 => 0
  | .majB0 | .majB1 | .minB0 | .minB1 | .shB0 | .shB1 | .shB2 => 1

/-- The device whose block's half LANDS at device `c` through the channel. -/
@[reducible] def origin : Ch → Dev nD → Dev nD
  | .majT0, c | .majB0, c => nb .maj c
  | .majT1, c | .majB1, c => nb .min (nb .maj c)
  | .minT0, c | .minB0, c => nb .min c
  | .minT1, c | .minB1, c => nb .maj (nb .min c)
  | .minT2, c => nb .min (nb .maj (nb .min c))
  | .shT0, c | .shB0, c => nb .sh c
  | .shT1, c | .shB1, c => nb .min (nb .sh c)
  | .shB2, c => nb .maj (nb .min (nb .sh c))

/-- Slot `0` of a two-slot buffer of halves, seen as one half. -/
abbrev slot0 (b : Memref sig .tc .vmem S2x256x4096 .fp8e4m3) : Memref sig .tc .vmem S256x4096 .fp8e4m3 :=
  (b.slice (Rect.unit (s := S2x256x4096) ![0, 0, 0] S1x256x4096.size inb_S2x256x4096_S1x256x4096_0_0_0) (fun _ => rfl)).squeeze S256x4096 squeezes_S1x256x4096_S256x4096
/-- Slot `1`. -/
abbrev slot1 (b : Memref sig .tc .vmem S2x256x4096 .fp8e4m3) : Memref sig .tc .vmem S256x4096 .fp8e4m3 :=
  (b.slice (Rect.unit (s := S2x256x4096) ![1, 0, 0] S1x256x4096.size inb_S2x256x4096_S1x256x4096_1_0_0) (fun _ => rfl)).squeeze S256x4096 squeezes_S1x256x4096_S256x4096

/-- The buffers of the kernel: the block as loaded, as rounded, the weights' columns as rounded, two pieces of them as
    loaded, and the landing buffers. -/
abbrev x32 : Memref sig .tc .vmem S512x4096 .f32 := Memref.whole cc0_scratch0
abbrev x8 : Memref sig .tc .vmem S2x256x4096 .fp8e4m3 := Memref.whole cc0_scratch1
abbrev w8 : Memref sig .tc .vmem S4096x1024 .fp8e4m3 := Memref.whole cc0_scratch2
abbrev w32 : Memref sig .tc .vmem S2x1024x1024 .f32 := Memref.whole cc0_scratch3
abbrev majA : Memref sig .tc .vmem S2x256x4096 .fp8e4m3 := Memref.whole cc0_scratch4
abbrev majB : Memref sig .tc .vmem S2x256x4096 .fp8e4m3 := Memref.whole cc0_scratch5
abbrev minA : Memref sig .tc .vmem S2x256x4096 .fp8e4m3 := Memref.whole cc0_scratch6
abbrev minB : Memref sig .tc .vmem S2x256x4096 .fp8e4m3 := Memref.whole cc0_scratch7
abbrev shA : Memref sig .tc .vmem S2x256x4096 .fp8e4m3 := Memref.whole cc0_scratch8
abbrev shB : Memref sig .tc .vmem S2x256x4096 .fp8e4m3 := Memref.whole cc0_scratch9
abbrev majH : Memref sig .tc .vmem S256x4096 .fp8e4m3 := Memref.whole cc0_scratch10
abbrev shH : Memref sig .tc .vmem S256x4096 .fp8e4m3 := Memref.whole cc0_scratch11
/-- The result's staging buffer. -/
abbrev outM : Memref sig .tc .vmem S4096x1024 .f32 := Memref.whole cc0_stg2_0

/-- What the channel's copy reads, on the sender. -/
@[reducible] def srcM : Ch → Memref sig .tc .vmem S256x4096 .fp8e4m3
  | .majT0 | .minT0 | .shT0 => slot0 x8
  | .majB0 | .minB0 | .shB0 => slot1 x8
  | .majT1 | .shT1 => slot0 majA
  | .majB1 | .shB1 => slot0 majB
  | .minT1 => slot0 minA
  | .minB1 => slot0 minB
  | .minT2 => slot1 minA
  | .shB2 => slot1 majB

/-- Where it lands, on the receiver. -/
@[reducible] def dstM : Ch → Memref sig .tc .vmem S256x4096 .fp8e4m3
  | .majT0 => slot0 minA | .majT1 => slot1 minA
  | .majB0 => slot0 minB | .majB1 => slot1 minB
  | .minT0 => slot0 majA | .minT1 => slot1 majA
  | .minB0 => slot0 majB | .minB1 => slot1 majB
  | .minT2 => majH
  | .shT0 => slot0 shA | .shT1 => slot1 shA
  | .shB0 => slot0 shB | .shB1 => slot1 shB
  | .shB2 => shH

/-- A semaphore of an array of four, of an array of five. -/
abbrev sem4 (a : DmaSems sig S4) (k : ℕ) (h : ∀ i : Fin 1, (![k] : Fin 1 → ℕ) i + S1.size i ≤ S4.size i) : DmaSem sig :=
  ((a.slice (Rect.unit (s := S4) ![k] S1.size h)).squeeze S_ squeezes_S1_S_).sem
abbrev sem5 (a : DmaSems sig S5) (k : ℕ) (h : ∀ i : Fin 1, (![k] : Fin 1 → ℕ) i + S1.size i ≤ S5.size i) : DmaSem sig :=
  ((a.slice (Rect.unit (s := S5) ![k] S1.size h)).squeeze S_ squeezes_S1_S_).sem

/-- The semaphore on which the sender learns that the copy has left. -/
@[reducible] def sendS : Ch → DmaSem sig
  | .majT0 => sem4 cc0_scratch14 0 inb_S4_S1_0 | .majT1 => sem4 cc0_scratch14 1 inb_S4_S1_1
  | .majB0 => sem4 cc0_scratch14 2 inb_S4_S1_2 | .majB1 => sem4 cc0_scratch14 3 inb_S4_S1_3
  | .minT0 => sem5 cc0_scratch15 0 inb_S5_S1_0 | .minT1 => sem5 cc0_scratch15 1 inb_S5_S1_1
  | .minB0 => sem5 cc0_scratch15 2 inb_S5_S1_2 | .minB1 => sem5 cc0_scratch15 3 inb_S5_S1_3
  | .minT2 => sem5 cc0_scratch15 4 inb_S5_S1_4
  | .shT0 => sem5 cc0_scratch16 0 inb_S5_S1_0 | .shT1 => sem5 cc0_scratch16 1 inb_S5_S1_1
  | .shB0 => sem5 cc0_scratch16 2 inb_S5_S1_2 | .shB1 => sem5 cc0_scratch16 3 inb_S5_S1_3
  | .shB2 => sem5 cc0_scratch16 4 inb_S5_S1_4

/-- The semaphore on which the receiver learns that it has landed. -/
@[reducible] def recvS : Ch → DmaSem sig
  | .majT0 => sem4 cc0_scratch18 0 inb_S4_S1_0 | .majT1 => sem4 cc0_scratch18 1 inb_S4_S1_1
  | .majB0 => sem4 cc0_scratch18 2 inb_S4_S1_2 | .majB1 => sem4 cc0_scratch18 3 inb_S4_S1_3
  | .minT0 => sem5 cc0_scratch17 0 inb_S5_S1_0 | .minT1 => sem5 cc0_scratch17 1 inb_S5_S1_1
  | .minB0 => sem5 cc0_scratch17 2 inb_S5_S1_2 | .minB1 => sem5 cc0_scratch17 3 inb_S5_S1_3
  | .minT2 => sem5 cc0_scratch17 4 inb_S5_S1_4
  | .shT0 => sem5 cc0_scratch19 0 inb_S5_S1_0 | .shT1 => sem5 cc0_scratch19 1 inb_S5_S1_1
  | .shB0 => sem5 cc0_scratch19 2 inb_S5_S1_2 | .shB1 => sem5 cc0_scratch19 3 inb_S5_S1_3
  | .shB2 => sem5 cc0_scratch19 4 inb_S5_S1_4

/-- The units a copy of one half brings a semaphore. -/
abbrev N : ℕ := (slot0 x8).view.dmaCredit
/-- A half isn't empty. -/
theorem N_pos : 0 < N := View.dmaCredit_pos _ (by decide)
/-- What a channel's copy reads brings that many units, -/
theorem src_credit (k : Ch) : (srcM k).view.dmaCredit = N := by cases k <;> rfl
/-- and so does what it fills. -/
theorem dst_credit (k : Ch) : (dstM k).view.dmaCredit = N := by cases k <;> rfl

/-! ## Cells -/

/-- The barrier semaphore on which the three partners meet. -/
abbrev barS : Sem sig := (SemArray.scalar (sig.barrier 0 rfl) : Sems sig S_).sem

/-- The semaphores of a device that other devices may pay: its barrier, and the two of each channel. -/
inductive Cell | bar | snd (k : Ch) | rcv (k : Ch)
deriving DecidableEq

/-- The cells in a list. -/
abbrev cellsL : List Cell := .bar :: (chans.map .snd ++ chans.map .rcv)

instance : Fintype Cell := ⟨⟨cellsL, by decide⟩, fun x => by rcases x with _ | k | k <;> first | decide | (cases k <;> decide)⟩

@[reducible] def csem : Cell → SemLoc sig
  | .bar => .reg barS
  | .snd k => .dma (sendS k)
  | .rcv k => .dma (recvS k)

/-- A cell of a device. -/
abbrev kcell (ck : Dev nD × Cell) : GSem nD τ sig := ((ck.1 : Thread nD τ), csem ck.2)

/-- Which cell a semaphore is, if it is one. -/
def role (sm : SemLoc sig) : Option Cell := cellsL.find? fun x => decide (csem x = sm)

/-- The semaphore of a cell is recognised as that cell's. -/
theorem role_csem : ∀ x : Cell, role (csem x) = some x := by decide +kernel

/-- Different cells have different semaphores, -/
theorem csem_injective : Function.Injective csem := fun x y h => by
  have := congrArg role h
  rw [role_csem, role_csem] at this
  exact Option.some.inj this

/-- on whatever devices they are. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

end Cert.Proof.Ring
end
-- ==== Proof.Schedule.lean ====
/-
Who pays which semaphore, how much, and what the payment hands over.

Every cell is used for ONE round. The barrier's round has three duties of one unit, one per side: a partner's signal
hands over the slots, on that partner, into which the channels of that side land. A channel's two cells have one duty
of the copy's credit each: on the sender it hands back the slot the copy read, on the receiver the slot it filled, at
the half it brought.
-/
module

public import proofs.«01_k».proof.Proof.Channels
public import Idealize.ShloMosaic.Lib.Rounds
public import Idealize.ShloMosaic.Lib.MemrefSat

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the windows' rounds, the cells' rounds, the counters of copies within a device -/

abbrev UB : Type := URounds (GSem nD τ sig) Side
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the cells' rounds sit: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb
abbrev 𝒱₀ : Variants := Variants.none

variable (m : (ℓ : Loc nD τ sig) → Buf (Elt F) ℓ)

/-! ## Contents -/

/-- The device's block of `x` and its copy of the weights, in main memory. -/
abbrev xHbm : Memref sig .tc .hbm S512x4096 .f32 := Memref.whole main_arg0
abbrev wHbm : Memref sig .tc .hbm S4096x8192 .f32 := Memref.whole main_arg1

/-- The two halves of a block of `x`, in main memory and as loaded. -/
abbrev xRect : Fin 2 → Rect S512x4096
  | 0 => Rect.unit (s := S512x4096) ![0, 0] S256x4096.size inb_S512x4096_S256x4096_0_0
  | 1 => Rect.unit (s := S512x4096) ![256, 0] S256x4096.size inb_S512x4096_S256x4096_256_0
abbrev xSrc0 : Memref sig .tc .hbm S256x4096 .f32 :=
  xHbm.slice (Rect.unit (s := S512x4096) ![0, 0] S256x4096.size inb_S512x4096_S256x4096_0_0) (fun _ => rfl)
abbrev xSrc1 : Memref sig .tc .hbm S256x4096 .f32 :=
  xHbm.slice (Rect.unit (s := S512x4096) ![256, 0] S256x4096.size inb_S512x4096_S256x4096_256_0) (fun _ => rfl)

/-- A half of device `c`'s block of `x`: the top for `0`, the bottom for `1`. -/
def xHalf : Fin 2 → Dev nD → S256x4096.Idx → Elt F .f32
  | 0, c => xSrc0.view.read (Elt F) (m ((c : Thread nD τ).loc main_arg0))
  | 1, c => xSrc1.view.read (Elt F) (m ((c : Thread nD τ).loc main_arg0))

/-- That half rounded to eight bits: what travels. -/
def half (h : Fin 2) (c : Dev nD) : S256x4096.Idx → Elt F .fp8e4m3 :=
  truncf .fp8e4m3 (xHalf m h c) bitsLt_fp8e4m3_f32

/-- What lands at `c` through a channel. -/
abbrev landed (k : Ch) (c : Dev nD) : S256x4096.Idx → Elt F .fp8e4m3 := half m (bot k) (origin k c)
/-- What `c` sends through it: what lands at the partner. -/
abbrev sent (k : Ch) (c : Dev nD) : S256x4096.Idx → Elt F .fp8e4m3 := half m (bot k) (origin k (nb (side k) c))

/-- The share of its slot that a channel's copy reads with: several copies read one slot at a time, and the device
    keeps a share to compute with. -/
@[reducible] def shr : Ch → PosShare TreeShare
  | .majT0 | .majB0 | .majT1 | .majB1 | .minT1 | .minB1 | .minT2 | .shB2 => fullShare.left
  | .minT0 | .minB0 | .shT1 | .shB1 => fullShare.right.left
  | .shT0 | .shB0 => fullShare.right.right.left

/-! ## What the payments hand over -/

/-- The channels that land on a device from its partner of a side. -/
@[reducible] def into : Side → List Ch
  | .maj => [.majT0, .majB0, .majT1, .majB1]
  | .min => [.minT0, .minB0, .minT1, .minB1, .minT2]
  | .sh => [.shT0, .shB0, .shT1, .shB1, .shB2]

/-- The slot of device `c` into which a channel lands, at whatever it holds. -/
def slot (k : Ch) (c : Dev nD) : sProp 𝕄 := iprop(∃ X, owns (c : Thread nD τ) (dstM k) fullShare X)

/-- All of device `c`'s slots for its partner of a side. -/
def slots (s : Side) (c : Dev nD) : sProp 𝕄 := bigSepL (into s) fun k => slot (F := F) k c

/-- The receiver's payment: the slot, at the half that came. -/
def landPay (k : Ch) (c : Dev nD) : sProp 𝕄 := owns (c : Thread nD τ) (dstM k) fullShare (landed m k c)
/-- The sender's payment: the share of the slot it read. -/
def sentPay (k : Ch) (c : Dev nD) : sProp 𝕄 := owns (c : Thread nD τ) (srcM k) (shr k) (sent m k c)

instance slot_storable (k : Ch) (c : Dev nD) : BI.Storable (upEmb : UEmb _ 𝕄) (slot (F := F) k c) := by
  unfold slot; simp only [owns_eq_ownsSat]; infer_instance
instance landPay_storable (k : Ch) (c : Dev nD) : BI.Storable (upEmb : UEmb _ 𝕄) (landPay m k c) := by
  unfold landPay; rw [owns_eq_ownsSat]; infer_instance
instance sentPay_storable (k : Ch) (c : Dev nD) : BI.Storable (upEmb : UEmb _ 𝕄) (sentPay m k c) := by
  unfold sentPay; rw [owns_eq_ownsSat]; infer_instance
instance slots_storable (s : Side) (c : Dev nD) : BI.Storable (upEmb : UEmb _ 𝕄) (slots (F := F) s c) := by
  unfold slots
  generalize into s = l
  induction l with
  | nil => exact inferInstanceAs (BI.Storable _ iprop(emp))
  | cons k l ih => rw [bigSepL_cons]; exact inferInstanceAs (BI.Storable _ iprop(slot (F := F) k c ∗ bigSepL l fun k => slot (F := F) k c))

/-! ## The schedule -/

/-- The duties of a cell's round. -/
def cellDuties : Option Cell → Finset Side
  | some .bar => Finset.univ
  | some _ => {.maj}
  | none => ∅

/-- The units of each. -/
def cellAmount : Option Cell → ℕ
  | some .bar => 1
  | _ => N

/-- What each hands over, at device `c`. -/
def cellPay (c : Dev nD) : Option Cell → Side → sProp 𝕄
  | some .bar, s => slots (F := F) s (nb s c)
  | some (.snd k), _ => sentPay m k c
  | some (.rcv k), _ => landPay m k c
  | none, _ => iprop(emp)

/-- One round for every cell of every device. -/
def Rd : Rounds.Schedule (GSem nD τ sig) Side 𝕄 where
  duties g r := if r = 0 ∧ g.1.2 = .tc then cellDuties (role g.2) else ∅
  unitless _ := False
  amount g _ _ := cellAmount (role g.2)
  payload g _ d := cellPay m g.1.1 (role g.2) d
  amount_pos g _ _ _ := by
    rcases role g.2 with _ | _ | _ | _
    · exact N_pos
    · exact Nat.one_pos
    · exact N_pos
    · exact N_pos

instance Rd_storable (g : GSem nD τ sig) (r : ℕ) (d : Side) : BI.Storable (upEmb : UEmb _ 𝕄) ((Rd m).payload g r d) := by
  show BI.Storable upEmb (cellPay m g.1.1 (role g.2) d)
  rcases role g.2 with _ | _ | _ | _ <;> unfold cellPay <;> infer_instance

/-- The duties of a cell's one round are those of its kind; -/
theorem duties_at (c : Dev nD) (x : Cell) : (Rd m).duties (kcell (c, x)) 0 = cellDuties (some x) := by
  dsimp only [Rd]; rw [if_pos ⟨rfl, rfl⟩, role_csem]
/-- there are no later ones. -/
theorem duties_later (g : GSem nD τ sig) : ∀ r, 1 ≤ r → (Rd m).duties g r = ∅ :=
  fun r hr => by dsimp only [Rd]; rw [if_neg fun h => by omega]
/-- What a duty of a cell brings in units, -/
theorem amount_at (c : Dev nD) (x : Cell) (d : Side) : (Rd m).amount (kcell (c, x)) 0 d = cellAmount (some x) := by
  dsimp only [Rd]; rw [role_csem]
/-- and what it hands over. -/
theorem payload_at (c : Dev nD) (x : Cell) (d : Side) : (Rd m).payload (kcell (c, x)) 0 d = cellPay m c (some x) d := by
  dsimp only [Rd]; rw [role_csem]

/-- The units a cell's round brings in all. -/
@[reducible] def cellTotal : Cell → ℕ
  | .bar => 3
  | _ => N

/-- A round brings what its duties bring together. -/
theorem expect_at (c : Dev nD) (x : Cell) : (Rd m).expect (kcell (c, x)) 0 = cellTotal x := by
  unfold Schedule.expect Schedule.amountOf
  rw [duties_at, Finset.sum_congr rfl fun d _ => amount_at m c x d]
  cases x with
  | bar => rfl
  | snd k => exact Finset.sum_singleton _ _
  | rcv k => exact Finset.sum_singleton _ _

/-- What the round of a barrier hands over: the slots of the three partners. -/
theorem rest_bar (c : Dev nD) :
    bigSep ((Rd m).duties (kcell (c, .bar)) 0 \ ∅) (fun d => (Rd m).payload (kcell (c, .bar)) 0 d)
      = iprop(slots (F := F) .maj (nb .maj c) ∗ slots (F := F) .min (nb .min c) ∗ slots (F := F) .sh (nb .sh c)) := by
  rw [Finset.sdiff_empty, duties_at]
  show bigSep Finset.univ _ = _
  rw [bigSep_univ_eq_bigSepL [Side.maj, .min, .sh] (by decide) (by decide), bigSepL_cons_cons, bigSepL_cons_cons, bigSepL_singleton,
    payload_at, payload_at, payload_at]
  rfl
/-- The whole of what the sender's cell hands over, -/
theorem rest_snd (k : Ch) (c : Dev nD) :
    bigSep ((Rd m).duties (kcell (c, .snd k)) 0 \ ∅) (fun d => (Rd m).payload (kcell (c, .snd k)) 0 d) = sentPay m k c := by
  rw [Finset.sdiff_empty, duties_at]; show bigSep {Side.maj} _ = _; rw [bigSep_singleton, payload_at]; rfl
/-- and of what the receiver's does. -/
theorem rest_rcv (k : Ch) (c : Dev nD) :
    bigSep ((Rd m).duties (kcell (c, .rcv k)) 0 \ ∅) (fun d => (Rd m).payload (kcell (c, .rcv k)) 0 d) = landPay m k c := by
  rw [Finset.sdiff_empty, duties_at]; show bigSep {Side.maj} _ = _; rw [bigSep_singleton, payload_at]; rfl

/-! ## What a device owes, and the order of waits -/

/-- A payment a device makes: its signal to the partner of a side, or the arrival of a channel's copy. -/
inductive Due | sig (s : Side) | put (k : Ch)
deriving DecidableEq

@[reducible] def dueSide : Due → Side | .sig s => s | .put k => side k
@[reducible] def dueCell : Due → Cell | .sig _ => .bar | .put k => .rcv k
@[reducible] def dueAmt : Due → ℕ | .sig _ => 1 | .put _ => N

/-- The cell a due of device `c` is paid to. -/
abbrev dueAt (x : Due) (c : Dev nD) : GSem nD τ sig := kcell (nb (dueSide x) c, dueCell x)

/-- What device `c` owes for a list of dues, the head last in the sum. -/
def dues : List Due → Dev nD → CellTallies nD τ sig Unit
  | [], _ => 0
  | x :: l, c => dues l c + tallyAt (dueAt x c) () (dueAmt x)

/-- A device's dues in the order in which it pays them. -/
abbrev order : List Due := [.sig .maj, .sig .min, .sig .sh] ++ chans.map .put

/-- The level of a cell: a device waiting at a cell may owe only cells of higher level. -/
@[reducible] def lvCell : Cell → ℕ
  | .bar => 1
  | .snd _ => 0
  | .rcv k => match k with
    | .majT0 | .majB0 | .minT0 | .minB0 | .shT0 | .shB0 => 2
    | .majT1 | .majB1 | .minT1 | .minB1 | .shT1 | .shB1 => 3
    | .minT2 | .shB2 => 4

def lvRole : Option Cell → ℕ
  | some x => lvCell x
  | none => 0
def lv (g : GSem nD τ sig) (_ : Unit) : ℕ := lvRole (role g.2)
def L (g : GSem nD τ sig) : Finset Unit := if g.1.2 = .tc then {()} else ∅

/-- Only the cells of the main cores have a level, -/
theorem L_of_ne (g : GSem nD τ sig) (h : g.1.2 ≠ .tc) : L g = ∅ := if_neg h
/-- all of these do, -/
theorem L_tc (c : Dev nD) (sm : SemLoc sig) : L ((c : Thread nD τ), sm) = {()} := if_pos rfl
/-- and it is that of the cell's kind. -/
theorem lv_at (c : Dev nD) (x : Cell) (u : Unit) : lv (kcell (c, x)) u = lvCell x := by
  unfold lv; rw [role_csem]; rfl

/-- A cell owed something is the cell of one of the dues. -/
theorem dues_pos {l : List Due} {c : Dev nD} {g : GSem nD τ sig} {u : Unit} (h : 0 < dues l c g u) : ∃ x ∈ l, g = dueAt x c := by
  induction l with
  | nil => exact absurd h (Nat.lt_irrefl 0)
  | cons x l ih =>
    by_cases hg : g = dueAt x c ∧ u = ()
    · exact ⟨x, List.mem_cons_self, hg.1⟩
    · unfold dues at h
      rw [Pi.add_apply, Finsupp.add_apply, tallyAt_apply, if_neg hg] at h
      obtain ⟨y, hy, e⟩ := ih h
      exact ⟨y, List.mem_cons_of_mem _ hy, e⟩

/-- A device may wait at a semaphore of level `n` when all it still owes is of higher level. -/
theorem mayWait_dues (c : Dev nD) (sm : SemLoc sig) (l : List Due) (h : ∀ x ∈ l, lvRole (role sm) < lvCell (dueCell x)) :
    (levAts L lv : sProp 𝕄) ⊢ MayWait (c : Thread nD τ) sm () (dues l c) :=
  MayOwe.of_cut (L := L) (lev := lv) (lvRole (role sm))
    (fun p hp => by rw [Finset.mem_singleton.mp hp, L_tc]; exact Finset.mem_singleton_self _)
    (fun g u hg => by obtain ⟨x, -, rfl⟩ := dues_pos hg; rw [L_tc]; exact Finset.mem_singleton_self _)
    (fun p hp => by rw [Finset.mem_singleton.mp hp]; exact le_refl _)
    (fun g u hg => by obtain ⟨x, hx, rfl⟩ := dues_pos hg; rw [lv_at]; exact h x hx)

end Cert.Proof.Ring
end
-- ==== Proof.Rules.lean ====
/-
One rule for each kind of step that a device takes with the others: its signal, its wait at the barrier, a copy to a
partner, the wait for a copy to come and for one to have left.
-/
module

public import proofs.«01_k».proof.Proof.Schedule
public import Idealize.ShloMosaic.Lib.Transfers

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a device holds for each cell -/

/-- The invariants of all cells, under names `K`, and that each is in its round. -/
def invs (K : Dev nD × Cell → ℕ) : sProp 𝕄 :=
  iprop((bigSep Finset.univ fun ck : Dev nD × Cell => cellInv ER (Rd m) (K ck) (kcell ck))
    ∗ bigSep Finset.univ fun ck : Dev nD × Cell => reached ER (kcell ck) 0)

instance invs_persistent (K : Dev nD × Cell → ℕ) : BI.Persistent (invs m K) := by unfold invs; infer_instance

/-- From the rules of all cells, the rule of one, -/
theorem inv_of (K : Dev nD × Cell → ℕ) (ck : Dev nD × Cell) : invs m K ⊢ cellInv ER (Rd m) (K ck) (kcell ck) := by
  unfold invs
  have h : (bigSep Finset.univ fun ck : Dev nD × Cell => (cellInv ER (Rd m) (K ck) (kcell ck) : sProp 𝕄))
      ⊢ cellInv ER (Rd m) (K ck) (kcell ck) := bigSep_elim (Finset.mem_univ ck)
  iintro ⟨H, -⟩
  iapply h; iexact H
/-- and that it is in its round. -/
theorem reached_of (K : Dev nD × Cell → ℕ) (ck : Dev nD × Cell) : invs m K ⊢ reached ER (kcell ck) 0 := by
  unfold invs
  have h : (bigSep Finset.univ fun ck : Dev nD × Cell => (reached ER (kcell ck) 0 : sProp 𝕄)) ⊢ reached ER (kcell ck) 0 :=
    bigSep_elim (Finset.mem_univ ck)
  iintro ⟨-, H⟩
  iapply h; iexact H

/-- A signal at the barrier brings the partner's slots, -/
theorem pay_bar (c : Dev nD) (s : Side) : (Rd m).payload (kcell (c, .bar)) 0 s = slots (F := F) s (nb s c) := payload_at m c .bar s
/-- a copy's leaving brings the source back, -/
theorem pay_snd (i : Ch) (c : Dev nD) : (Rd m).payload (kcell (c, .snd i)) 0 .maj = sentPay m i c := payload_at m c (.snd i) .maj
/-- its coming brings what landed. -/
theorem pay_rcv (i : Ch) (c : Dev nD) : (Rd m).payload (kcell (c, .rcv i)) 0 .maj = landPay m i c := payload_at m c (.rcv i) .maj

/-- What device `c` still owes, and which waits it has made. -/
def Owes (l : List Due) (c : Dev nD) : sProp 𝕄 := iprop(∃ W : Waits sig Unit, owes (c : Thread nD τ) (dues l c) W)

/-- The right to make the signal of a side. -/
def Sig (s : Side) (c : Dev nD) : sProp 𝕄 := dutyTok ER (kcell (nb s c, .bar)) 0 s
/-- The right to start a channel's copy: to pay its two cells, and to wait at the first. -/
def Ready (k : Ch) (c : Dev nD) : sProp 𝕄 :=
  iprop(dutyTok ER (kcell (c, .snd k)) 0 .maj ∗ dutyTok ER (kcell (nb (side k) c, .rcv k)) 0 .maj ∗ atPos ER (kcell (c, .snd k)) 0 ∅ 0)
/-- A copy under way: the right to wait for it to have left. -/
def Flying (k : Ch) (c : Dev nD) : sProp 𝕄 :=
  iprop(cred (tallyAt (kcell (c, .snd k)) () N) ∗ atPos ER (kcell (c, .snd k)) 0 ∅ 0)
/-- The right to wait for a channel's copy to come. -/
def Await (k : Ch) (c : Dev nD) : sProp 𝕄 :=
  iprop(cred (tallyAt (kcell (c, .rcv k)) () N) ∗ atPos ER (kcell (c, .rcv k)) 0 ∅ 0)
/-- The right to wait at the barrier. -/
def Meet (c : Dev nD) : sProp 𝕄 :=
  iprop(cred (tallyAt (kcell (c, .bar)) () 3) ∗ atPos ER (kcell (c, .bar)) 0 ∅ 0)
/-- A semaphore that nothing will pay any more, at zero. -/
def Idle (x : Cell) (c : Dev nD) : sProp 𝕄 := semVal (kcell (c, x)) 0

/-- After its round a cell stands at zero. -/
theorem close_cell (K : Dev nD × Cell → ℕ) (x : Cell) (c : Dev nD) :
    iprop(invs m K ∗ atPos ER (kcell (c, x)) (0 + 1) ∅ 0) ⊢ |={Set.univ}=> Idle (F := F) x c := by
  unfold Idle
  iintro ⟨HI, Hat⟩
  iapply (Rounds.cell_close ER (Rd m) (κ := K (c, x)) (Set.mem_univ _) (fun h => h) (R := 0 + 1) (duties_later m _))
  isplitl [HI]
  · iapply (inv_of m K (c, x)); iexact HI
  · iexact Hat

/-! ## The barrier -/

section Steps

variable (K : Dev nD × Cell → ℕ) {α : Type} {Q : α → sProp (MT nD τ sig Unit (Elt F) ℕ UU ℕ)}
  {k : PUnit → Prog (TpuEff nD τ sig (Elt F) Λ₀ .tc) α}

/-- Signalling the partner of a side: the device pays with the slots it keeps for that partner. -/
theorem wp_sig (s : Side) (c n : Dev nD) (hn : n = nb s c) (l : List Due) {k' : ℕ} (hk : k' = 1) :
    iprop(invs m K ∗ Sig s c ∗ slots s c ∗ Owes (.sig s :: l) c)
      ⊢ iprop((Owes l c -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((n, .tc) : Thread nD τ) barS k') k) Q) := by
  subst hn hk
  unfold Sig Owes
  iintro ⟨#HI, Ht, Hs, ⟨%W, HO⟩⟩ Hk
  iapply (Rounds.wp_signal 𝒱₀ ER (Rd m) (c : Thread nD τ) none (dst := (nb s c : Thread nD τ)) (κ := K (nb s c, .bar)) (d := s)
      (by rw [duties_at m (nb s c) .bar]; exact Finset.mem_univ _) (amount_at m (nb s c) .bar s) () (dues l c) rfl) $$ [HO Ht Hs]
  · isplitr; · iapply (inv_of m K (nb s c, .bar)); iexact HI
    isplitl [HO]; · iexact HO
    isplitl [Ht]; · iexact Ht
    isplitl [Hs]
    · rw [pay_bar, nb_nb]; iexact Hs
    · iapply (reached_of m K (nb s c, .bar)); iexact HI
  iintro HO
  iapply Hk
  iexists W; iexact HO

/-- Waiting for the three partners' signals: their slots come with them. -/
theorem wp_meet (c : Dev nD) (l : List Due) (hl : ∀ x ∈ l, 1 < lvCell (dueCell x)) {k' : ℕ} (hk : k' = 3) :
    iprop(invs m K ∗ levAts L lv ∗ Meet c ∗ Owes l c)
      ⊢ iprop(((Owes l c ∗ Idle .bar c ∗ slots .maj (nb .maj c) ∗ slots .min (nb .min c) ∗ slots .sh (nb .sh c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold Meet Owes
  iintro ⟨#HI, #Hlev, ⟨Hc, Hat⟩, ⟨%W, HO⟩⟩ Hk
  iapply (Rounds.wp_wait_rest_token 𝒱₀ ER (Rd m) (c : Thread nD τ) none (κ := K (c, .bar))
      (wpE_semWait_eq 𝒱₀ (c : Thread nD τ) none Set.univ) (Set.mem_univ _) () (O := dues l c) (W := W) (R := 0) (m := 0) (T := ∅)
      (by rw [expect_at m c .bar])) $$ [Hc HO Hat]
  · isplitr; · iapply (inv_of m K (c, .bar)); iexact HI
    isplitl [Hc]; · iexact Hc
    isplitl [HO]; · iexact HO
    isplitr
    · iapply (mayWait_dues c (csem .bar) l (by rw [role_csem]; exact hl)); iexact Hlev
    iexact Hat
  iintro ⟨HO, Hat, -, Hpay⟩
  ihave Hp := (Entails.of_eq (rest_bar m c)) $$ Hpay
  imod (close_cell m K .bar c) $$ [Hat] with Hi
  · isplitr; · iexact HI
    iexact Hat
  iapply Hk
  isplitl [HO]; · iexists _; iexact HO
  isplitl [Hi]; · iexact Hi
  iexact Hp

/-! ## Channels -/

/-- Starting a channel's copy: the device lends a share of the source slot and the partner's slot. -/
theorem wp_send (i : Ch) (c n : Dev nD) (hn : n = nb (side i) c) (l : List Due)
    {hsc : (dstM i).view.ref.isScScratch = false} {hsrc : (srcM i).view.WordExact} {hdst : (dstM i).view.WordExact}
    {hsem : DmaTarget.Typed .vmem (.dma (recvS i)) (.remote (Dev.tc n : Thread nD τ) (dstM i) (.dma (sendS i)) hsc)} :
    iprop(invs m K ∗ Ready i c ∗ slot i (nb (side i) c) ∗ owns (c : Thread nD τ) (srcM i) (shr i) (sent m i c) ∗ Owes (.put i :: l) c)
      ⊢ iprop(((Owes l c ∗ Flying i c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM i) (.remote (Dev.tc n : Thread nD τ) (dstM i) (.dma (sendS i)) hsc) (.dma (recvS i)) hsrc hdst hsem) k) Q) := by
  subst hn
  unfold Ready Flying slot Owes
  iintro ⟨#HI, ⟨Ht, Ht', Hat⟩, ⟨%X, Hd⟩, Hs, ⟨%W, HO⟩⟩ Hk
  unfold owns
  icases Hd with ⟨%fd, -, Hd⟩
  icases Hs with ⟨%fs, %hfs, Hs⟩
  iapply (Rounds.wp_send_pointsTo 𝒱₀ ER (Rd m) (c : Thread nD τ) none (c' := (nb (side i) c : Thread nD τ)) (src := srcM i) (dst := dstM i) (sS := .dma (sendS i)) (sem := .dma (recvS i))
      (κ₁ := K (c, .snd i)) (κ₂ := K (nb (side i) c, .rcv i))
      (r₁ := 0) (r₂ := 0) (d₁ := Side.maj) (d₂ := Side.maj) (fd := fd) (fs := fs) (q := shr i)
      (by rw [duties_at m c (.snd i)]; exact Finset.mem_singleton_self _)
      (by rw [duties_at m (nb (side i) c) (.rcv i)]; exact Finset.mem_singleton_self _)
      () () N (dst_credit i) (amount_at m c (.snd i) .maj) (amount_at m (nb (side i) c) (.rcv i) .maj) (dues l c) rfl (W := W)
      (by
        rw [pay_snd]; unfold sentPay owns
        iintro H; iexists fs
        isplitr; · ipureintro; exact hfs
        iexact H)
      (by
        rw [pay_rcv]; unfold landPay owns
        iintro H; iexists _
        isplitr
        rotate_left
        · iexact H
        · ipureintro; rw [View.read_write_univ, hfs])) $$ [HO Ht Ht' Hd Hs]
  · isplitr; · iapply (inv_of m K (c, .snd i)); iexact HI
    isplitr; · iapply (inv_of m K (nb (side i) c, .rcv i)); iexact HI
    isplitl [Hs]; · iexact Hs
    isplitl [Hd]; · iexact Hd
    isplitl [HO]; · iexact HO
    isplitl [Ht]; · iexact Ht
    isplitr; · iapply (reached_of m K (c, .snd i)); iexact HI
    isplitl [Ht']; · iexact Ht'
    iapply (reached_of m K (nb (side i) c, .rcv i)); iexact HI
  iintro ⟨Hc, HO⟩
  iapply Hk
  isplitl [HO]; · iexists W; iexact HO
  isplitl [Hc] <;> iassumption

/-- Waiting for a channel's copy to come: the slot comes back at the half it brought. -/
theorem wp_recv (i : Ch) (c : Dev nD) (l : List Due) (hl : ∀ x ∈ l, lvCell (.rcv i) < lvCell (dueCell x))
    {sp sp' : Space} {s s' : Shape} {e e' : EltTy} {κ' : Kind} {srcw : Memref sig .tc sp' s' e'} {dstw : Memref sig κ' sp s e}
    {hsrc : srcw.view.WordExact} {hdst : dstw.view.WordExact} (hN : dstw.view.dmaCredit = N) :
    iprop(invs m K ∗ levAts L lv ∗ Await i c ∗ Owes l c)
      ⊢ iprop(((Owes l c ∗ Idle (.rcv i) c ∗ owns (c : Thread nD τ) (dstM i) fullShare (landed m i c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS i) srcw dstw hsrc hdst) k) Q) := by
  unfold Await Owes
  iintro ⟨#HI, #Hlev, ⟨Hc, Hat⟩, ⟨%W, HO⟩⟩ Hk
  iapply (Rounds.wp_wait_rest_token 𝒱₀ ER (Rd m) (c : Thread nD τ) none (κ := K (c, .rcv i))
      (wpE_waitDma2_eq 𝒱₀ (c : Thread nD τ) none Set.univ) (Set.mem_univ _) () (O := dues l c) (W := W) (R := 0) (m := 0) (T := ∅)
      (by rw [expect_at m c (.rcv i), Nat.zero_add]; exact hN)) $$ [Hc HO Hat]
  · isplitr; · iapply (inv_of m K (c, .rcv i)); iexact HI
    isplitl [Hc]; · rw [← hN]; iexact Hc
    isplitl [HO]; · iexact HO
    isplitr
    · iapply (mayWait_dues c (csem (.rcv i)) l (by rw [role_csem]; exact hl)); iexact Hlev
    iexact Hat
  iintro ⟨HO, Hat, -, Hpay⟩
  ihave Hp := (Entails.of_eq (rest_rcv m i c)) $$ Hpay
  imod (close_cell m K (.rcv i) c) $$ [Hat] with Hi
  · isplitr; · iexact HI
    iexact Hat
  iapply Hk
  isplitl [HO]; · iexists _; iexact HO
  isplitl [Hi]; · iexact Hi
  unfold landPay
  iexact Hp

/-- Waiting for a channel's copy to have left: the share of the source slot comes back. -/
theorem wp_sent (i : Ch) (c : Dev nD)
    {sp sp' : Space} {s s' : Shape} {e e' : EltTy} {κ' : Kind} {srcw : Memref sig .tc sp' s' e'} {dstw : Memref sig κ' sp s e}
    {hsrc : srcw.view.WordExact} {hdst : dstw.view.WordExact} (hN : dstw.view.dmaCredit = N) :
    iprop(invs m K ∗ levAts L lv ∗ Flying i c ∗ Owes [] c)
      ⊢ iprop(((Owes [] c ∗ Idle (.snd i) c ∗ owns (c : Thread nD τ) (srcM i) (shr i) (sent m i c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS i) srcw dstw hsrc hdst) k) Q) := by
  unfold Flying Owes
  iintro ⟨#HI, #Hlev, ⟨Hc, Hat⟩, ⟨%W, HO⟩⟩ Hk
  iapply (Rounds.wp_wait_rest_token 𝒱₀ ER (Rd m) (c : Thread nD τ) none (κ := K (c, .snd i))
      (wpE_waitDma2_eq 𝒱₀ (c : Thread nD τ) none Set.univ) (Set.mem_univ _) () (O := dues [] c) (W := W) (R := 0) (m := 0) (T := ∅)
      (by rw [expect_at m c (.snd i), Nat.zero_add]; exact hN)) $$ [Hc HO Hat]
  · isplitr; · iapply (inv_of m K (c, .snd i)); iexact HI
    isplitl [Hc]; · rw [← hN]; iexact Hc
    isplitl [HO]; · iexact HO
    isplitr
    · iapply (mayWait_dues c (csem (.snd i)) [] (fun x hx => absurd hx List.not_mem_nil)); iexact Hlev
    iexact Hat
  iintro ⟨HO, Hat, -, Hpay⟩
  ihave Hp := (Entails.of_eq (rest_snd m i c)) $$ Hpay
  imod (close_cell m K (.snd i) c) $$ [Hat] with Hi
  · isplitr; · iexact HI
    iexact Hat
  iapply Hk
  isplitl [HO]; · iexists _; iexact HO
  isplitl [Hi]; · iexact Hi
  unfold sentPay
  iexact Hp

end Steps

end Cert.Proof.Ring
end
-- ==== Proof.Moves.lean ====
/-
One rule for each kind of step that a device takes on its own memory: reading a slot or a piece of a buffer, writing a
slot, a piece of the rounded weights or a tile of the result, a copy from main memory and the wait for it.
-/
module

public import proofs.«01_k».proof.Proof.Rules
public import Idealize.ShloMosaic.Lib.Pipeline.Value
public import Idealize.ShloMosaic.Lib.ValueIdxCore

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ UU ℕ

variable (m : (ℓ : Loc nD τ sig) → Buf (Elt F) ℓ)

/-! ## Reading and writing slots -/

section Slots

variable {α : Type} {Q : α → sProp (MT nD τ sig Unit (Elt F) ℕ UU ℕ)} {cs : CoreSpace} {s s' : Shape} {e : EltTy}
  {M : Memref sig .tc cs s e} {r : Rect s} {hr : ∀ a, r.stride a = 1}

/-- Reading a piece of a buffer that the device owns as a slice. -/
theorem wp_read (c : Dev nD) {q : PosShare TreeShare} {X : r.shape.Idx → Elt F e} {hl : M.view.LoadsAt r}
    {k : (r.shape.Idx → Elt F e) → Prog (TpuEff nD τ sig (Elt F) Λ₀ .tc) α} :
    (owns (c : Thread nD τ) (M.slice r hr) q X : sProp 𝕄)
      ⊢ iprop((owns (c : Thread nD τ) (M.slice r hr) q X
            -∗ wp frame (wpE (defs₀ (F := F)) 𝒱₀ (c : Thread nD τ) none) Set.univ (k X) Q)
          -∗ wp frame (wpE (defs₀ (F := F)) 𝒱₀ (c : Thread nD τ) none) Set.univ (.op (.load M r hl) k) Q) := by
  unfold owns
  iintro ⟨%f, %hf, H⟩ Hk
  iapply (wp_load_rect 𝒱₀ (c : Thread nD τ) none Set.univ (m := M) (r := r) (f := f) (Finset.Subset.refl _)) $$ H
  iintro H
  rw [show (M.access r).read (Elt F) f = X from hf]
  iapply Hk
  iexists f
  isplitr; · ipureintro; exact hf
  iexact H

/-- Reading a slot that the device owns squeezed: the value is the slot's, with the unit axis back. -/
theorem wp_read_slot (c : Dev nD) {hq : r.shape.Squeezes s'} (hc : s'.ShapeCasts r.shape) {q : PosShare TreeShare}
    {X : s'.Idx → Elt F e} {hl : M.view.LoadsAt r}
    {k : (r.shape.Idx → Elt F e) → Prog (TpuEff nD τ sig (Elt F) Λ₀ .tc) α} :
    (owns (c : Thread nD τ) ((M.slice r hr).squeeze s' hq) q X : sProp 𝕄)
      ⊢ iprop((owns (c : Thread nD τ) ((M.slice r hr).squeeze s' hq) q X
            -∗ wp frame (wpE (defs₀ (F := F)) 𝒱₀ (c : Thread nD τ) none) Set.univ (k (shapeCast r.shape X hc)) Q)
          -∗ wp frame (wpE (defs₀ (F := F)) 𝒱₀ (c : Thread nD τ) none) Set.univ (.op (.load M r hl) k) Q) := by
  unfold owns
  iintro ⟨%f, %hf, H⟩ Hk
  iapply (wp_load_rect 𝒱₀ (c : Thread nD τ) none Set.univ (m := M) (r := r) (f := f)
    (show (M.access r).set ⊆ ((M.slice r hr).squeeze s' hq).view.set from (View.set_reshape (M.slice r hr).view hq.numel_eq).ge)) $$ H
  iintro H
  rw [show (M.access r).read (Elt F) f = shapeCast r.shape X hc by
    rw [← hf]; exact (shapeCast_shapeCast _ (by first | exact hq.numel_eq | exact hq.numel_eq.symm) hc).symm]
  iapply Hk
  iexists f
  isplitr; · ipureintro; exact hf
  iexact H

/-- Writing a slot that the device owns squeezed. -/
theorem wp_write_slot (c : Dev nD) {hq : r.shape.Squeezes s'} (hc : s'.ShapeCasts r.shape)
    {X X' : s'.Idx → Elt F e} {w : r.shape.Idx → Elt F e} (hw : w = shapeCast r.shape X' hc)
    {hx : (M.access r).Stores Finset.univ} {hm}
    {k : PUnit → Prog (TpuEff nD τ sig (Elt F) Λ₀ .tc) α} :
    (owns (c : Thread nD τ) ((M.slice r hr).squeeze s' hq) fullShare X : sProp 𝕄)
      ⊢ iprop((owns (c : Thread nD τ) ((M.slice r hr).squeeze s' hq) fullShare X'
            -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold owns
  iintro ⟨%f, -, H⟩ Hk
  iapply (wp_store 𝒱₀ (c : Thread nD τ) none Set.univ (m := M) (r := r) (f := f)
    (show (M.access r).setOn Finset.univ ⊆ ((M.slice r hr).squeeze s' hq).view.set from
      (View.setOn_subset_set _ _).trans (View.set_reshape (M.slice r hr).view hq.numel_eq).ge)) $$ H
  iintro H
  iapply Hk
  iexists _
  isplitr
  rotate_left
  · iexact H
  ipureintro
  subst hw
  have hc' : r.shape.ShapeCasts s' := by first | exact hq.numel_eq | exact hq.numel_eq.symm
  have h : (M.access r).read (Elt F) ((M.access r).write (Elt F) f (shapeCast r.shape X' hc) Finset.univ) = shapeCast r.shape X' hc :=
    View.read_write_univ _ _
  exact (congrArg (fun v => shapeCast s' v hc') h).trans (shapeCast_shapeCast _ hc _)

end Slots

/-! ## Copies within a device -/

section Copies

variable {α : Type} {Q : α → sProp (MT nD τ sig Unit (Elt F) ℕ UU ℕ)} {sp sp' : Space} {s : Shape} {e : EltTy}
  {k : PUnit → Prog (TpuEff nD τ sig (Elt F) Λ₀ .tc) α}

/-- A copy under way on semaphore `sm`: it will fill `dst` with what `src` holds, and gives back the share of the
    source's buffer. -/
def Copying (c : Dev nD) (src : Memref sig .tc sp s e) (dst : Memref sig .tc sp' s e) (sm : DmaSem sig) (q : PosShare TreeShare)
    (fs : Buf (Elt F) (src.view.loc (c : Thread nD τ))) : sProp 𝕄 :=
  iprop((∃ fd, Flight EC (c : Thread nD τ) (.dma sm) () dst.view.dmaCredit
        iprop((dst.view.loc (c : Thread nD τ) ↦[dst.view.set]{fullShare} (dst.view.write (Elt F) fd (src.view.read (Elt F) fs) Finset.univ))
          ∗ (src.view.loc (c : Thread nD τ) ↦[src.view.set]{q} fs)))
    ∗ (src.view.loc (c : Thread nD τ) ↦[Finset.univ \ src.view.set]{q} fs))

/-- Starting a copy. -/
theorem wp_copy (c : Dev nD) {src : Memref sig .tc sp s e} {dst : Memref sig .tc sp' s e} {sm : DmaSem sig} {q : PosShare TreeShare}
    {fs : Buf (Elt F) (src.view.loc (c : Thread nD τ))} (hn : 0 < s.numel)
    {hsrc : src.view.WordExact} {hdst : dst.view.WordExact} {hsem : DmaTarget.Typed (nD := nD) sp (.dma sm) (DmaTarget.here (p := Proc.tc) dst)} :
    iprop((src.view.loc (c : Thread nD τ) ↦[Finset.univ]{q} fs) ∗ (∃ X, owns (c : Thread nD τ) dst fullShare X)
        ∗ semVal ((c : Thread nD τ), .dma sm) 0)
      ⊢ iprop((Copying c src dst sm q fs -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma sm) hsrc hdst hsem) k) Q) := by
  unfold owns Copying
  iintro ⟨Hs, ⟨%X, %fd, -, Hd⟩, Hv⟩ Hk
  ihave Hs' := (pointsTo_split_subset (Finset.subset_univ src.view.set)).1 $$ Hs
  icases Hs' with ⟨Hs, Hr⟩
  iapply (wp_dmaLocal EC 𝒱₀ (c : Thread nD τ) none (src := src) (dst := dst) (fs := fs) (fd := fd) (Sd := dst.view.set) ()
    dst.view.dmaCredit rfl (View.dmaCredit_pos _ hn) (Finset.Subset.refl _)) $$ [Hs Hd Hv]
  · isplitl [Hs]; · iexact Hs
    isplitl [Hd]; · iexact Hd
    iexact Hv
  iintro Hf
  iapply Hk
  isplitl [Hf]
  · iexists fd; iexact Hf
  · iexact Hr

/-- Waiting for a copy, its semaphore being no cell that others pay. -/
theorem wp_copied (c : Dev nD) {src : Memref sig .tc sp s e} {dst : Memref sig .tc sp' s e} {sm : DmaSem sig} {q : PosShare TreeShare}
    {fs : Buf (Elt F) (src.view.loc (c : Thread nD τ))} (l : List Due)
    (hl : ∀ x ∈ l, lvRole (role (.dma sm)) < lvCell (dueCell x))
    {s₁ : Shape} {e₁ : EltTy} {sp₁ : Space} {srcw : Memref sig .tc sp₁ s₁ e₁} {hsrc : srcw.view.WordExact} {hdst : dst.view.WordExact} :
    iprop(levAts L lv ∗ Copying c src dst sm q fs ∗ Owes l c)
      ⊢ iprop(((Owes l c ∗ semVal ((c : Thread nD τ), .dma sm) 0 ∗ owns (c : Thread nD τ) dst fullShare (src.view.read (Elt F) fs)
              ∗ (src.view.loc (c : Thread nD τ) ↦[Finset.univ]{q} fs))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcw dst hsrc hdst) k) Q) := by
  unfold Copying Owes
  iintro ⟨#Hlev, ⟨⟨%fd, Hf⟩, Hr⟩, ⟨%W, HO⟩⟩ Hk
  iapply (wp_waitLocalO EC 𝒱₀ (c : Thread nD τ) none () (N := dst.view.dmaCredit) rfl (O := dues l c) (W := W)) $$ [Hf HO]
  · isplitl [Hf]; · iexact Hf
    isplitl [HO]; · iexact HO
    iapply (mayWait_dues c (.dma sm) l hl); iexact Hlev
  iintro ⟨⟨Hd, Hs⟩, Hv, HO⟩
  iapply Hk
  isplitl [HO]; · iexists _; iexact HO
  isplitl [Hv]; · iexact Hv
  isplitl [Hd]
  · unfold owns
    iexists _
    isplitr
    rotate_left
    · iexact Hd
    · ipureintro; exact View.read_write_univ _ _
  · iapply (pointsTo_split_subset (Finset.subset_univ src.view.set)).2
    isplitl [Hs] <;> iassumption

end Copies

/-! ## The rounded weights, piece by piece; the result, tile by tile -/

/-- The columns of the weights that belong to device `c`, rounded to eight bits. -/
def wCols (c : Dev nD) : S4096x1024.Idx → Elt F .fp8e4m3 :=
  truncf .fp8e4m3 (fun y => (m ((c : Thread nD τ).loc main_arg1) : S4096x8192.Idx → Elt F .f32)
    (ix2 (y 0) ⟨1024 * c.val + (y 1).val, by have := idx2_lt1 y; have : c.val < 8 := c.isLt; omega⟩))
    bitsLt_fp8e4m3_f32

/-- The rounded weights are in place up to row `1024 · n`. -/
def WRows (n : ℕ) (c : Dev nD) : sProp 𝕄 :=
  iprop(∃ f : S4096x1024.Idx → Elt F .fp8e4m3, ⌜∀ y : S4096x1024.Idx, (y 0).val < 1024 * n → f y = wCols m c y⌝
    ∗ ((c : Thread nD τ).loc cc0_scratch2 ↦{fullShare} f))

/-- The product of the two scales. -/
def scale (c : Dev nD) : F .f32 :=
  Scalar.mulf ((m ((c : Thread nD τ).loc main_arg2) : S1.Idx → F .f32) (ix1 0)) ((m ((c : Thread nD τ).loc main_arg3) : S1.Idx → F .f32) (ix1 0))

/-- A tile of the result: a half of a block against the device's columns, scaled and cut at zero. -/
def tile (v : F .f32) (X : S256x4096.Idx → Elt F .fp8e4m3) (W : S4096x1024.Idx → Elt F .fp8e4m3) : S256x1024.Idx → Elt F .f32 :=
  maximumf (mulf (matmul dot_S256x4096_S4096x1024_S256x1024_1_0_0_1_n_n none X W (constant S256x1024 .f32 0x00000000#32))
    (broadcast S256x1024 v)) (broadcast S256x1024 (Scalar.ofBits .f32 0x00000000#32))

/-- Device `c`'s whole result: rows `512 · o + 256 · h` on are the tile of half `h` of device `o`'s block. -/
def outFull (c : Dev nD) : S4096x1024.Idx → Elt F .f32 := fun y =>
  tile (scale m c) (half m ⟨(y 0).val % 512 / 256, by omega⟩ ⟨(y 0).val / 512, by have := idx2_lt0 y; show _ < 8; omega⟩)
    (wCols m c) (ix2 ⟨(y 0).val % 256, by omega⟩ (y 1))

/-- The tiles of the listed halves of blocks are in place. -/
def Tiles (l : List (Dev nD × Fin 2)) (c : Dev nD) : sProp 𝕄 :=
  iprop(∃ f : S4096x1024.Idx → Elt F .f32,
    ⌜∀ p ∈ l, ∀ y : S4096x1024.Idx, (y 0).val / 512 = p.1.val → (y 0).val % 512 / 256 = p.2.val → f y = outFull m c y⌝
    ∗ ((c : Thread nD τ).loc cc0_stg2_0 ↦{fullShare} f))

/-- Where a rectangle of unit strides puts an index. -/
theorem unit_emb {s : Shape} {o sz : Fin s.rank → ℕ} (h : ∀ a, o a + sz a ≤ s.size a) (j : (Rect.unit (s := s) o sz h).shape.Idx) (y : s.Idx)
    (hy : ∀ a, o a + (j a).val = (y a).val) : (Rect.unit (s := s) o sz h).emb j = y :=
  funext fun a => Fin.ext ((congrArg (o a + ·) (Nat.one_mul _)).trans (hy a))

/-- The row that a tile's row is in the result. -/
theorem tile_row {y a b : ℕ} (h1 : y / 512 = a) (h2 : y % 512 / 256 = b) : 512 * a + 256 * b + y % 256 = y := by omega

/-- What a whole buffer holds after a piece of it was written: at the piece, what was written; elsewhere, what it held. -/
theorem write_at (b : Ref sig .tc) (r : Rect b.ty.shape) (f : b.ty.Contents (Elt F)) (w : r.shape.Idx → Elt F b.ty.elt) (j : r.shape.Idx) :
    ((Memref.whole b).access r : View sig .tc _ _ _).write (Elt F) f w Finset.univ (r.emb j) = w j :=
  View.read_slice_write_emb (v := (Memref.whole b).view) r f w (Finset.mem_univ j)
/-- Outside the piece it holds what it held. -/
theorem write_off (b : Ref sig .tc) (r : Rect b.ty.shape) (f : b.ty.Contents (Elt F)) (w : r.shape.Idx → Elt F b.ty.elt) (y : b.ty.shape.Idx)
    (h : ∀ j, r.emb j ≠ y) :
    ((Memref.whole b).access r : View sig .tc _ _ _).write (Elt F) f w Finset.univ y = f y :=
  View.read_slice_write_of_not_mem (v := (Memref.whole b).view) r f w Finset.univ fun hm => by
    obtain ⟨j, -, hj⟩ := Finset.mem_map.mp hm
    exact h j hj

section Pieces

variable {α : Type} {Q : α → sProp (MT nD τ sig Unit (Elt F) ℕ UU ℕ)}

/-- Reading the rounded weights anywhere, for a value that is not used. -/
theorem wp_peek_w (n : ℕ) (c : Dev nD) {r : Rect S4096x1024} {hl : w8.view.LoadsAt r}
    {k : (r.shape.Idx → Elt F .fp8e4m3) → Prog (TpuEff nD τ sig (Elt F) Λ₀ .tc) α} :
    (WRows m n c : sProp 𝕄)
      ⊢ iprop((∀ v, WRows m n c -∗ wp frame (wpE (defs₀ (F := F)) 𝒱₀ (c : Thread nD τ) none) Set.univ (k v) Q)
          -∗ wp frame (wpE (defs₀ (F := F)) 𝒱₀ (c : Thread nD τ) none) Set.univ (.op (.load w8 r hl) k) Q) := by
  unfold WRows
  iintro ⟨%f, %hf, H⟩ Hk
  iapply (wp_load_rect 𝒱₀ (c : Thread nD τ) none Set.univ (m := w8) (r := r) (f := f) (Finset.subset_univ _)) $$ H
  iintro H
  iapply Hk
  iexists f
  isplitr; · ipureintro; exact hf
  iexact H

/-- Writing piece `n` of the rounded weights. -/
theorem wp_write_w (n : ℕ) (c : Dev nD) {o : Fin 2 → ℕ} (ho : o = ![1024 * n, 0])
    {h : ∀ a, o a + S1024x1024.size a ≤ S4096x1024.size a} {w : S1024x1024.Idx → Elt F .fp8e4m3}
    (hw : ∀ j : S1024x1024.Idx, w j = wCols m c ((Rect.unit (s := S4096x1024) o S1024x1024.size h).emb j))
    {hx : (w8.access (Rect.unit (s := S4096x1024) o S1024x1024.size h)).Stores Finset.univ} {hm}
    {k : PUnit → Prog (TpuEff nD τ sig (Elt F) Λ₀ .tc) α} :
    (WRows m n c : sProp 𝕄)
      ⊢ iprop((WRows m (n + 1) c -∗ wp frame (wpE (defs₀ (F := F)) 𝒱₀ (c : Thread nD τ) none) Set.univ (k ⟨⟩) Q)
          -∗ wp frame (wpE (defs₀ (F := F)) 𝒱₀ (c : Thread nD τ) none) Set.univ
              (.op (.store w8 (Rect.unit (s := S4096x1024) o S1024x1024.size h) w Finset.univ hx hm) k) Q) := by
  subst ho
  unfold WRows
  iintro ⟨%f, %hf, H⟩ Hk
  iapply (wp_store 𝒱₀ (c : Thread nD τ) none Set.univ (m := w8) (r := Rect.unit (s := S4096x1024) ![1024 * n, 0] S1024x1024.size h)
    (f := f) (Finset.subset_univ _)) $$ H
  iintro H
  iapply Hk
  iexists _
  isplitr
  rotate_left
  · iexact H
  ipureintro
  intro y hy
  by_cases hin : 1024 * n ≤ (y 0).val
  · have he : (Rect.unit (s := S4096x1024) ![1024 * n, 0] S1024x1024.size h).emb
        (ix2 ⟨(y 0).val - 1024 * n, by omega⟩ (y 1) : S1024x1024.Idx) = y :=
      unit_emb _ _ _ (Fin.forall_fin_two.mpr ⟨Nat.add_sub_cancel' hin, Nat.zero_add _⟩)
    have hv := write_at cc0_scratch2 (Rect.unit (s := S4096x1024) ![1024 * n, 0] S1024x1024.size h) f w
      (ix2 ⟨(y 0).val - 1024 * n, by omega⟩ (y 1) : S1024x1024.Idx)
    rw [hw, he] at hv
    exact hv
  · have hv := write_off cc0_scratch2 (Rect.unit (s := S4096x1024) ![1024 * n, 0] S1024x1024.size h) f w y fun j hj => by
      have h0 : 1024 * n + 1 * (j 0).val = (y 0).val := congrArg (fun i : S4096x1024.Idx => (i 0).val) hj
      omega
    rw [hf y (by omega)] at hv
    exact hv

/-- Once all four pieces are written the device owns the rounded weights. -/
theorem wRows_done (c : Dev nD) : (WRows m 4 c : sProp 𝕄) ⊢ owns (c : Thread nD τ) w8 fullShare (wCols m c) := by
  unfold WRows owns
  iintro ⟨%f, %hf, H⟩
  iexists f
  isplitr
  · ipureintro; exact funext fun y => hf y (by have := idx2_lt0 y; omega)
  · simp only [Memref.view_whole, View.set_whole]; iexact H

/-- Reading the result's buffer anywhere, for a value that is not used. -/
theorem wp_peek_out (l : List (Dev nD × Fin 2)) (c : Dev nD) {r : Rect S4096x1024} {hl : outM.view.LoadsAt r}
    {k : (r.shape.Idx → Elt F .f32) → Prog (TpuEff nD τ sig (Elt F) Λ₀ .tc) α} :
    (Tiles m l c : sProp 𝕄)
      ⊢ iprop((∀ v, Tiles m l c -∗ wp frame (wpE (defs₀ (F := F)) 𝒱₀ (c : Thread nD τ) none) Set.univ (k v) Q)
          -∗ wp frame (wpE (defs₀ (F := F)) 𝒱₀ (c : Thread nD τ) none) Set.univ (.op (.load outM r hl) k) Q) := by
  unfold Tiles
  iintro ⟨%f, %hf, H⟩ Hk
  iapply (wp_load_rect 𝒱₀ (c : Thread nD τ) none Set.univ (m := outM) (r := r) (f := f) (Finset.subset_univ _)) $$ H
  iintro H
  iapply Hk
  iexists f
  isplitr; · ipureintro; exact hf
  iexact H

/-- Writing the tile of half `p.2` of device `p.1`'s block. -/
theorem wp_tile (l : List (Dev nD × Fin 2)) (p : Dev nD × Fin 2) (c : Dev nD) {o : Fin 2 → ℕ}
    (ho : o = ![512 * p.1.val + 256 * p.2.val, 0]) {h : ∀ a, o a + S256x1024.size a ≤ S4096x1024.size a}
    {w : S256x1024.Idx → Elt F .f32} (hw : w = tile (scale m c) (half m p.2 p.1) (wCols m c))
    {hx : (outM.access (Rect.unit (s := S4096x1024) o S256x1024.size h)).Stores Finset.univ} {hm}
    {k : PUnit → Prog (TpuEff nD τ sig (Elt F) Λ₀ .tc) α} :
    (Tiles m l c : sProp 𝕄)
      ⊢ iprop((Tiles m (p :: l) c -∗ wp frame (wpE (defs₀ (F := F)) 𝒱₀ (c : Thread nD τ) none) Set.univ (k ⟨⟩) Q)
          -∗ wp frame (wpE (defs₀ (F := F)) 𝒱₀ (c : Thread nD τ) none) Set.univ
              (.op (.store outM (Rect.unit (s := S4096x1024) o S256x1024.size h) w Finset.univ hx hm) k) Q) := by
  subst ho hw
  unfold Tiles
  iintro ⟨%f, %hf, H⟩ Hk
  iapply (wp_store 𝒱₀ (c : Thread nD τ) none Set.univ (m := outM)
    (r := Rect.unit (s := S4096x1024) ![512 * p.1.val + 256 * p.2.val, 0] S256x1024.size h) (f := f) (Finset.subset_univ _)) $$ H
  iintro H
  iapply Hk
  iexists _
  isplitr
  rotate_left
  · iexact H
  ipureintro
  have hp2 := p.2.isLt
  have key : ∀ y : S4096x1024.Idx, (y 0).val / 512 = p.1.val → (y 0).val % 512 / 256 = p.2.val →
      (outM.access (Rect.unit (s := S4096x1024) ![512 * p.1.val + 256 * p.2.val, 0] S256x1024.size h)).write (Elt F) f
        (tile (scale m c) (half m p.2 p.1) (wCols m c)) Finset.univ y = outFull m c y := by
    intro y h1 h2
    have he : (Rect.unit (s := S4096x1024) ![512 * p.1.val + 256 * p.2.val, 0] S256x1024.size h).emb
        (ix2 ⟨(y 0).val % 256, by omega⟩ (y 1) : S256x1024.Idx) = y :=
      unit_emb _ _ _ (Fin.forall_fin_two.mpr ⟨tile_row h1 h2, Nat.zero_add _⟩)
    have hv := write_at cc0_stg2_0 (Rect.unit (s := S4096x1024) ![512 * p.1.val + 256 * p.2.val, 0] S256x1024.size h) f
      (tile (scale m c) (half m p.2 p.1) (wCols m c)) (ix2 ⟨(y 0).val % 256, by omega⟩ (y 1) : S256x1024.Idx)
    rw [he] at hv
    refine hv.trans ?_
    unfold outFull
    rw [show (⟨(y 0).val % 512 / 256, by omega⟩ : Fin 2) = p.2 from Fin.ext h2, show (⟨(y 0).val / 512, by rw [h1]; exact p.1.isLt⟩ : Dev nD) = p.1 from Fin.ext h1]
  intro p' hp' y h1 h2
  rcases List.mem_cons.mp hp' with rfl | hp'
  · exact key y h1 h2
  · by_cases hq : (y 0).val / 512 = p.1.val ∧ (y 0).val % 512 / 256 = p.2.val
    · exact key y hq.1 hq.2
    · refine (write_off cc0_stg2_0 _ f _ y fun j hj => hq ?_).trans (hf p' hp' y h1 h2)
      have h0 : 512 * p.1.val + 256 * p.2.val + 1 * (j 0).val = (y 0).val := congrArg (fun i : S4096x1024.Idx => (i 0).val) hj
      have hj0 : (j 0).val < 256 := (j 0).isLt
      omega

end Pieces

end Cert.Proof.Ring
end
-- ==== Proof.Pieces.lean ====
/-
The pieces of the program as they run on the kernel's own buffers, and the values that their reads and writes compute.
-/
module

public import proofs.«01_k».proof.Proof.Moves

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ UU ℕ

variable (m : (ℓ : Loc nD τ sig) → Buf (Elt F) ℓ)

/-! ## The program's buffers -/

/-- A piece of the program on the kernel's own buffers. -/
abbrev onBuffers {X : Type 1} (p : ∀
    (arg0 : Memref sig .tc .hbm S512x4096 .f32) (harg0 : arg0.IsWhole) (arg1 : Memref sig .tc .hbm S4096x8192 .f32)
    (harg1 : arg1.IsWhole) (arg2 : Memref sig .tc .smem S1 .f32) (harg2 : arg2.IsWhole) (arg3 : Memref sig .tc .smem S1 .f32)
    (harg3 : arg3.IsWhole) (arg4 : Memref sig .tc .vmem S4096x1024 .f32) (harg4 : arg4.IsWhole)
    (arg5 : Memref sig .tc .vmem S512x4096 .f32) (harg5 : arg5.IsWhole) (arg6 : Memref sig .tc .vmem S2x256x4096 .fp8e4m3)
    (harg6 : arg6.IsWhole) (arg7 : Memref sig .tc .vmem S4096x1024 .fp8e4m3) (harg7 : arg7.IsWhole)
    (arg8 : Memref sig .tc .vmem S2x1024x1024 .f32) (harg8 : arg8.IsWhole) (arg9 : Memref sig .tc .vmem S2x256x4096 .fp8e4m3)
    (harg9 : arg9.IsWhole) (arg10 : Memref sig .tc .vmem S2x256x4096 .fp8e4m3) (harg10 : arg10.IsWhole)
    (arg11 : Memref sig .tc .vmem S2x256x4096 .fp8e4m3) (harg11 : arg11.IsWhole)
    (arg12 : Memref sig .tc .vmem S2x256x4096 .fp8e4m3) (harg12 : arg12.IsWhole)
    (arg13 : Memref sig .tc .vmem S2x256x4096 .fp8e4m3) (harg13 : arg13.IsWhole)
    (arg14 : Memref sig .tc .vmem S2x256x4096 .fp8e4m3) (harg14 : arg14.IsWhole)
    (arg15 : Memref sig .tc .vmem S256x4096 .fp8e4m3) (harg15 : arg15.IsWhole) (arg16 : Memref sig .tc .vmem S256x4096 .fp8e4m3)
    (harg16 : arg16.IsWhole) (arg17 : DmaSems sig S2) (arg18 : DmaSems sig S2) (arg19 : DmaSems sig S4) (arg20 : DmaSems sig S5)
    (arg21 : DmaSems sig S5) (arg22 : DmaSems sig S5) (arg23 : DmaSems sig S4) (arg24 : DmaSems sig S5), X) : X :=
  p
    (Memref.whole main_arg0) (Memref.isWhole_whole _) (Memref.whole main_arg1) (Memref.isWhole_whole _) (Memref.whole cc0_stg0_0)
    (Memref.isWhole_whole _) (Memref.whole cc0_stg1_0) (Memref.isWhole_whole _) (Memref.whole cc0_stg2_0)
    (Memref.isWhole_whole _) (Memref.whole cc0_scratch0) (Memref.isWhole_whole _) (Memref.whole cc0_scratch1)
    (Memref.isWhole_whole _) (Memref.whole cc0_scratch2) (Memref.isWhole_whole _) (Memref.whole cc0_scratch3)
    (Memref.isWhole_whole _) (Memref.whole cc0_scratch4) (Memref.isWhole_whole _) (Memref.whole cc0_scratch5)
    (Memref.isWhole_whole _) (Memref.whole cc0_scratch6) (Memref.isWhole_whole _) (Memref.whole cc0_scratch7)
    (Memref.isWhole_whole _) (Memref.whole cc0_scratch8) (Memref.isWhole_whole _) (Memref.whole cc0_scratch9)
    (Memref.isWhole_whole _) (Memref.whole cc0_scratch10) (Memref.isWhole_whole _) (Memref.whole cc0_scratch11)
    (Memref.isWhole_whole _) cc0_scratch12 cc0_scratch13 cc0_scratch14 cc0_scratch15 cc0_scratch16 cc0_scratch17 cc0_scratch18
    cc0_scratch19

/-- A semaphore of an array of two. -/
abbrev sem2 (a : DmaSems sig S2) (k : ℕ) (h : ∀ i : Fin 1, (![k] : Fin 1 → ℕ) i + S1.size i ≤ S2.size i) : DmaSem sig :=
  ((a.slice (Rect.unit (s := S2) ![k] S1.size h)).squeeze S_ squeezes_S1_S_).sem

/-- The semaphores of the copies within a device: the halves of its block, the pieces of its weights' columns. -/
abbrev xSem0 : DmaSem sig := sem2 cc0_scratch12 0 inb_S2_S1_0
abbrev xSem1 : DmaSem sig := sem2 cc0_scratch12 1 inb_S2_S1_1
abbrev wSem0 : DmaSem sig := sem2 cc0_scratch13 0 inb_S2_S1_0
abbrev wSem1 : DmaSem sig := sem2 cc0_scratch13 1 inb_S2_S1_1

/-- Where the halves of the block are loaded. -/
abbrev xIn0 : Memref sig .tc .vmem S256x4096 .f32 :=
  x32.slice (Rect.unit (s := S512x4096) ![0, 0] S256x4096.size inb_S512x4096_S256x4096_0_0) (fun _ => rfl)
abbrev xIn1 : Memref sig .tc .vmem S256x4096 .f32 :=
  x32.slice (Rect.unit (s := S512x4096) ![256, 0] S256x4096.size inb_S512x4096_S256x4096_256_0) (fun _ => rfl)

/-- Where the pieces of the weights' columns are loaded, by turns. -/
abbrev wIn0 : Memref sig .tc .vmem S1024x1024 .f32 :=
  (w32.slice (Rect.unit (s := S2x1024x1024) ![0, 0, 0] S1x1024x1024.size inb_S2x1024x1024_S1x1024x1024_0_0_0) (fun _ => rfl)).squeeze S1024x1024 squeezes_S1x1024x1024_S1024x1024
abbrev wIn1 : Memref sig .tc .vmem S1024x1024 .f32 :=
  (w32.slice (Rect.unit (s := S2x1024x1024) ![1, 0, 0] S1x1024x1024.size inb_S2x1024x1024_S1x1024x1024_1_0_0) (fun _ => rfl)).squeeze S1024x1024 squeezes_S1x1024x1024_S1024x1024

/-- A piece of the weights in main memory. -/
abbrev wSrc (o : Fin 2 → ℕ) (h : ∀ a, o a + S1024x1024.size a ≤ S4096x8192.size a) : Memref sig .tc .hbm S1024x1024 .f32 :=
  wHbm.slice (Rect.unit (s := S4096x8192) o S1024x1024.size h) (fun _ => rfl)

/-- A buffer of which the device owns a part, at whatever it holds. -/
abbrev Any {cs : Space} {s : Shape} {e : EltTy} (c : Dev nD) (M : Memref sig .tc cs s e) : sProp 𝕄 :=
  iprop(∃ X, owns (c : Thread nD τ) M fullShare X)

/-- A share of the device's block of `x`, of its weights. -/
abbrev HasX (c : Dev nD) (q : PosShare TreeShare) : sProp 𝕄 :=
  iprop((c : Thread nD τ).loc main_arg0 ↦{q} m ((c : Thread nD τ).loc main_arg0))
abbrev HasW (c : Dev nD) (q : PosShare TreeShare) : sProp 𝕄 :=
  iprop((c : Thread nD τ).loc main_arg1 ↦{q} m ((c : Thread nD τ).loc main_arg1))

/-! ## Values -/

instance : Subsingleton S1.Idx := ⟨fun a b => funext fun i => by
  fin_cases i
  exact Subsingleton.elim (α := Fin 1) _ _⟩

/-- Rounding a loaded piece of the weights' columns gives the rounded columns there. -/
theorem w_piece (c : Dev nD) (n : ℕ) {o o' : Fin 2 → ℕ} (ho : o = ![1024 * n, 1024 * c.val]) (ho' : o' = ![1024 * n, 0])
    (h : ∀ a, o a + S1024x1024.size a ≤ S4096x8192.size a) (h' : ∀ a, o' a + S1024x1024.size a ≤ S4096x1024.size a)
    (j : S1024x1024.Idx) :
    truncf .fp8e4m3 ((wSrc o h).view.read (Elt F) (m ((c : Thread nD τ).loc main_arg1)) : S1024x1024.Idx → Elt F .f32) bitsLt_fp8e4m3_f32 j
      = wCols m c ((Rect.unit (s := S4096x1024) o' S1024x1024.size h').emb j) := by
  subst ho ho'
  have he : (Rect.unit (s := S4096x8192) ![1024 * n, 1024 * c.val] S1024x1024.size h).emb j
      = ix2 ((Rect.unit (s := S4096x1024) ![1024 * n, 0] S1024x1024.size h').emb j 0)
          ⟨1024 * c.val + ((Rect.unit (s := S4096x1024) ![1024 * n, 0] S1024x1024.size h').emb j 1).val, by
            have h1 : ((Rect.unit (s := S4096x1024) ![1024 * n, 0] S1024x1024.size h').emb j 1).val < 1024 := Fin.isLt _
            have : c.val < 8 := c.isLt
            omega⟩ :=
    unit_emb _ _ _ (Fin.forall_fin_two.mpr
      ⟨(congrArg (1024 * n + ·) (Nat.one_mul _)).symm, by
        show 1024 * c.val + (j 1).val = 1024 * c.val + (0 + 1 * (j 1).val)
        omega⟩)
  exact congrArg (fun i => truncf .fp8e4m3 (fun _ : S1024x1024.Idx => (m ((c : Thread nD τ).loc main_arg1) : S4096x8192.Idx → Elt F .f32) i) bitsLt_fp8e4m3_f32 j) he

/-- What a step computes from a loaded piece is the piece rounded. -/
theorem w_rounded (X : S1024x1024.Idx → Elt F .f32) (hc : S1024x1024.ShapeCasts S1x1024x1024) :
    k0_pay4 (shapeCast S1x1024x1024 X hc) = truncf .fp8e4m3 X bitsLt_fp8e4m3_f32 := by
  unfold k0_pay4
  simp only [shapeCast_shapeCast, shapeCast_self]

/-- A tile does not see the unit axis that a slot's read adds. -/
theorem tile_cast (v : F .f32) (X : S256x4096.Idx → Elt F .fp8e4m3) (hc : S256x4096.ShapeCasts S1x256x4096) (hc' : S1x256x4096.ShapeCasts S256x4096)
    (W : S4096x1024.Idx → Elt F .fp8e4m3) : tile v (shapeCast S256x4096 (shapeCast S1x256x4096 X hc) hc') W = tile v X W := by
  rw [shapeCast_shapeCast]

/-- What a step computes from a slot's read is the tile of what the slot holds. -/
theorem tile_of (v : F .f32) (X : S256x4096.Idx → Elt F .fp8e4m3) (hc : S256x4096.ShapeCasts S1x256x4096) (W : S4096x1024.Idx → Elt F .fp8e4m3) :
    k0_pay10 v (shapeCast S1x256x4096 X hc) W = tile v X W := tile_cast v X hc _ W

/-- A slot's read without its unit axis is what the slot holds. -/
theorem cast_back (X : S256x4096.Idx → Elt F .fp8e4m3) (hc : S256x4096.ShapeCasts S1x256x4096) :
    k0_pay12 (shapeCast S1x256x4096 X hc) = X := by
  unfold k0_pay12
  simp only [shapeCast_shapeCast, shapeCast_self]

/-! ## The tiles, in the order in which they are computed -/

/-- All tiles of a device's result, the last one first. -/
abbrev allTiles (c : Dev nD) : List (Dev nD × Fin 2) :=
  [(nb .maj (nb .min (nb .sh c)), 1), (nb .min (nb .maj (nb .min c)), 0),
    (nb .min (nb .sh c), 1), (nb .min (nb .maj c), 1), (nb .maj (nb .min c), 1), (nb .min (nb .sh c), 0), (nb .maj (nb .min c), 0),
    (nb .min (nb .maj c), 0), (nb .sh c, 1), (nb .maj c, 1), (nb .min c, 1), (nb .sh c, 0), (nb .maj c, 0), (nb .min c, 0), (c, 1), (c, 0)]

/-- They are the halves of all blocks. -/
theorem allTiles_all (c d : Dev nD) (h : Fin 2) : (d, h) ∈ allTiles c := by revert c d h; decide +kernel

/-- The first `n` tiles are in place. -/
abbrev Done (n : ℕ) (c : Dev nD) : sProp 𝕄 := Tiles m ((allTiles c).drop (16 - n)) c

/-- One more tile in place. -/
theorem done_next (n : ℕ) (c : Dev nD) (p : Dev nD × Fin 2)
    (h : (allTiles c).drop (16 - (n + 1)) = p :: (allTiles c).drop (16 - n)) :
    Tiles m (p :: (allTiles c).drop (16 - n)) c ⊢ Done m (n + 1) c := by rw [Done, h]

/-- Equal values may stand for each other. -/
theorem at_eq {α : Type} {Q : α → sProp 𝕄} {a b : α} (h : b = a) : Q a ⊢ Q b := by rw [h]

/-- Where the kernel stores its tiles. -/
theorem off6_at (c : Dev nD) (h : Fin 2) : k0_off6 c (BitVec.ofNat 32 (256 * h.val)) = ![512 * (nb .min c).val + 256 * h.val, 0] := by
  revert c h; decide +kernel
/-- The block of the first partner, -/
theorem off7_at (c : Dev nD) (h : Fin 2) : k0_off7 c (BitVec.ofNat 32 (256 * h.val)) = ![512 * (nb .maj c).val + 256 * h.val, 0] := by
  revert c h; decide +kernel
/-- that of the third, -/
theorem off8_3 (c : Dev nD) (h : Fin 2) : k0_off8 c 3#32 (BitVec.ofNat 32 (256 * h.val)) = ![512 * (nb .sh c).val + 256 * h.val, 0] := by
  revert c h; decide +kernel
/-- that of the first's second, -/
theorem off8_2 (c : Dev nD) (h : Fin 2) :
    k0_off8 c 2#32 (BitVec.ofNat 32 (256 * h.val)) = ![512 * (nb .min (nb .maj c)).val + 256 * h.val, 0] := by
  revert c h; decide +kernel
/-- of the second's first, -/
theorem off9_2 (c : Dev nD) (h : Fin 2) :
    k0_off9 c 2#32 (BitVec.ofNat 32 (256 * h.val)) = ![512 * (nb .maj (nb .min c)).val + 256 * h.val, 0] := by
  revert c h; decide +kernel
/-- of that one's second, -/
theorem off9_3 (c : Dev nD) (h : Fin 2) :
    k0_off9 c 3#32 (BitVec.ofNat 32 (256 * h.val)) = ![512 * (nb .min (nb .maj (nb .min c))).val + 256 * h.val, 0] := by
  revert c h; decide +kernel
/-- and of the third's second. -/
theorem off10_at (c : Dev nD) (h : Fin 2) :
    k0_off10 c (BitVec.ofNat 32 (256 * h.val)) = ![512 * (nb .min (nb .sh c)).val + 256 * h.val, 0] := by
  revert c h; decide +kernel
/-- The device from which the last two halves come is one and the same. -/
theorem far_eq (c : Dev nD) : nb .min (nb .maj (nb .min c)) = nb .maj (nb .min (nb .sh c)) := by revert c; decide +kernel
/-- So the very last tile is stored where it should be. -/
theorem off9_3' (c : Dev nD) (h : Fin 2) :
    k0_off9 c 3#32 (BitVec.ofNat 32 (256 * h.val)) = ![512 * (nb .maj (nb .min (nb .sh c))).val + 256 * h.val, 0] := by
  rw [← far_eq]; exact off9_3 c h

/-! ## The setting of every piece -/

/-- A piece of the program running on device `c`, with what it gives. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What every piece may use: the cells' invariants and the order of the waits. -/
abbrev Rules (K : Dev nD × Cell → ℕ) : sProp 𝕄 := iprop(invs m K ∗ levAts L lv)

/-- What a device owes when it has made its first `n` payments. -/
abbrev Left (n : ℕ) (c : Dev nD) : sProp 𝕄 := Owes (order.drop n) c

/-- A wait at a semaphore that no one else pays is below whatever the device owes. -/
theorem low_sem {sm : DmaSem sig} (h : role (.dma sm) = none) (l : List Due) : ∀ x ∈ l, lvRole (role (.dma sm)) < lvCell (dueCell x) := by
  rw [h]
  rintro (s | k) -
  · exact Nat.one_pos
  · cases k <;> exact Nat.succ_pos _
/-- The semaphores of the copies within a device are no cells: the top half of `x`, -/
theorem role_x0 : role (.dma xSem0) = none := by decide +kernel
/-- the bottom half, -/
theorem role_x1 : role (.dma xSem1) = none := by decide +kernel
/-- the even pieces of the weights, -/
theorem role_w0 : role (.dma wSem0) = none := by decide +kernel
/-- the odd ones. -/
theorem role_w1 : role (.dma wSem1) = none := by decide +kernel

/-- A copy to a partner, of a half that the device knows by another name. -/
theorem wp_put (K : Dev nD × Cell → ℕ) {α : Type} {Q : α → sProp 𝕄} {k : PUnit → Prog (TpuEff nD τ sig (Elt F) Λ₀ .tc) α}
    (i : Ch) (c n : Dev nD) (hn : n = nb (side i) c) (l : List Due) {X : S256x4096.Idx → Elt F .fp8e4m3} (hX : X = sent m i c)
    {hsc : (dstM i).view.ref.isScScratch = false} {hsrc : (srcM i).view.WordExact} {hdst : (dstM i).view.WordExact}
    {hsem : DmaTarget.Typed .vmem (.dma (recvS i)) (.remote (Dev.tc n : Thread nD τ) (dstM i) (.dma (sendS i)) hsc)} :
    iprop(invs m K ∗ Ready i c ∗ slot i (nb (side i) c) ∗ owns (c : Thread nD τ) (srcM i) (shr i) X ∗ Owes (.put i :: l) c)
      ⊢ iprop(((Owes l c ∗ Flying i c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM i) (.remote (Dev.tc n : Thread nD τ) (dstM i) (.dma (sendS i)) hsc) (.dma (recvS i)) hsrc hdst hsem) k) Q) := by
  subst hX; exact wp_send m K i c n hn l

/-- The wait for a copy to have left, of a half that the device knows by another name. -/
theorem wp_back (K : Dev nD × Cell → ℕ) {α : Type} {Q : α → sProp 𝕄} {k : PUnit → Prog (TpuEff nD τ sig (Elt F) Λ₀ .tc) α}
    (i : Ch) (c : Dev nD) {X : S256x4096.Idx → Elt F .fp8e4m3} (hX : X = sent m i c)
    {sp sp' : Space} {s s' : Shape} {e e' : EltTy} {κ' : Kind} {srcw : Memref sig .tc sp' s' e'} {dstw : Memref sig κ' sp s e}
    {hsrc : srcw.view.WordExact} {hdst : dstw.view.WordExact} (hN : dstw.view.dmaCredit = N) :
    iprop(invs m K ∗ levAts L lv ∗ Flying i c ∗ Owes [] c)
      ⊢ iprop(((Owes [] c ∗ Idle (.snd i) c ∗ owns (c : Thread nD τ) (srcM i) (shr i) X)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS i) srcw dstw hsrc hdst) k) Q) := by
  subst hX; exact wp_sent m K i c hN

/-! ## Slots and shares -/

/-- The slots that a device keeps for its first partner, one for each channel of that side; -/
theorem slots_maj (c : Dev nD) : (slots .maj c : sProp 𝕄)
    = iprop(slot .majT0 c ∗ slot .majB0 c ∗ slot .majT1 c ∗ slot .majB1 c) := by
  unfold slots; simp only [into, bigSepL_cons_cons, bigSepL_singleton]; rfl
/-- for its second; -/
theorem slots_min (c : Dev nD) : (slots .min c : sProp 𝕄)
    = iprop(slot .minT0 c ∗ slot .minB0 c ∗ slot .minT1 c ∗ slot .minB1 c ∗ slot .minT2 c) := by
  unfold slots; simp only [into, bigSepL_cons_cons, bigSepL_singleton]; rfl
/-- for its third. -/
theorem slots_sh (c : Dev nD) : (slots .sh c : sProp 𝕄)
    = iprop(slot .shT0 c ∗ slot .shB0 c ∗ slot .shT1 c ∗ slot .shB1 c ∗ slot .shB2 c) := by
  unfold slots; simp only [into, bigSepL_cons_cons, bigSepL_singleton]; rfl

/-- A slot in two, three and four shares. -/
theorem shares2 {cs : Space} {s : Shape} {e : EltTy} (c : Dev nD) (M : Memref sig .tc cs s e) (q : PosShare TreeShare) (X : s.Idx → Elt F e) :
    (owns (c : Thread nD τ) M q X : sProp 𝕄) ⊣⊢ iprop(owns (c : Thread nD τ) M q.left X ∗ owns (c : Thread nD τ) M q.right X) :=
  owns_halves _ _ _ _
/-- In three shares. -/
theorem shares3 {cs : Space} {s : Shape} {e : EltTy} (c : Dev nD) (M : Memref sig .tc cs s e) (q : PosShare TreeShare) (X : s.Idx → Elt F e) :
    (owns (c : Thread nD τ) M q X : sProp 𝕄)
      ⊣⊢ iprop(owns (c : Thread nD τ) M q.left X ∗ owns (c : Thread nD τ) M q.right.left X ∗ owns (c : Thread nD τ) M q.right.right X) :=
  ⟨(shares2 c M q X).1.trans (sep_mono_right (shares2 c M q.right X).1), (sep_mono_right (shares2 c M q.right X).2).trans (shares2 c M q X).2⟩
/-- In four shares. -/
theorem shares4 {cs : Space} {s : Shape} {e : EltTy} (c : Dev nD) (M : Memref sig .tc cs s e) (q : PosShare TreeShare) (X : s.Idx → Elt F e) :
    (owns (c : Thread nD τ) M q X : sProp 𝕄)
      ⊣⊢ iprop(owns (c : Thread nD τ) M q.left X ∗ owns (c : Thread nD τ) M q.right.left X ∗ owns (c : Thread nD τ) M q.right.right.left X
        ∗ owns (c : Thread nD τ) M q.right.right.right X) :=
  ⟨(shares3 c M q X).1.trans (sep_mono_right (sep_mono_right (shares2 c M q.right.right X).1)),
    (sep_mono_right (sep_mono_right (shares2 c M q.right.right X).2)).trans (shares3 c M q X).2⟩

/-! ## Reading a whole buffer -/

section Whole

variable {α : Type} {Q : α → sProp (MT nD τ sig Unit (Elt F) ℕ UU ℕ)} {cs : CoreSpace} {s : Shape} {e : EltTy}

/-- Reading a buffer that the device owns whole. -/
theorem wp_read_all (c : Dev nD) {M : Memref sig .tc cs s e} {o : Fin s.rank → ℕ} {h : ∀ a, o a + s.size a ≤ s.size a}
    (hM : ∀ f, ((M.access (Rect.unit (s := s) o s.size h)).read (Elt F) f : s.Idx → Elt F e) = M.view.read (Elt F) f)
    {q : PosShare TreeShare} {X : s.Idx → Elt F e} {hl : M.view.LoadsAt (Rect.unit (s := s) o s.size h).toLoadRect}
    {k : (s.Idx → Elt F e) → Prog (TpuEff nD τ sig (Elt F) Λ₀ .tc) α} :
    (owns (c : Thread nD τ) M q X : sProp 𝕄)
      ⊢ iprop((owns (c : Thread nD τ) M q X -∗ wp frame (wpE (defs₀ (F := F)) 𝒱₀ (c : Thread nD τ) none) Set.univ (k X) Q)
          -∗ wp frame (wpE (defs₀ (F := F)) 𝒱₀ (c : Thread nD τ) none) Set.univ (.op (.load M (Rect.unit (s := s) o s.size h).toLoadRect hl) k) Q) := by
  unfold owns
  iintro ⟨%f, %hf, H⟩ Hk
  iapply (wp_load_rect 𝒱₀ (c : Thread nD τ) none Set.univ (m := M) (r := Rect.unit (s := s) o s.size h) (f := f) (View.set_slice_subset _ _)) $$ H
  iintro H
  rw [show ((M.access (Rect.unit (s := s) o s.size h)).read (Elt F) f : s.Idx → Elt F e) = X from (hM f).trans hf]
  iapply Hk
  iexists f
  isplitr; · ipureintro; exact hf
  iexact H

/-- Reading a scalar that the device owns. -/
theorem wp_scalar (c : Dev nD) {M : Memref sig .tc .smem S1 e} {r : Rect S1} {hl : M.view.LoadsAt r.toLoadRect}
    {X : S1.Idx → Elt F e} {q : PosShare TreeShare} {k : (r.shape.Idx → Elt F e) → Prog (TpuEff nD τ sig (Elt F) Λ₀ .tc) α} :
    (owns (c : Thread nD τ) M q X : sProp 𝕄)
      ⊢ iprop((owns (c : Thread nD τ) M q X
            -∗ wp frame (wpE (defs₀ (F := F)) 𝒱₀ (c : Thread nD τ) none) Set.univ (k fun _ => X (ix1 0)) Q)
          -∗ wp frame (wpE (defs₀ (F := F)) 𝒱₀ (c : Thread nD τ) none) Set.univ (.op (.load M r.toLoadRect hl) k) Q) := by
  unfold owns
  iintro ⟨%f, %hf, H⟩ Hk
  iapply (wp_load_rect 𝒱₀ (c : Thread nD τ) none Set.univ (m := M) (r := r) (f := f) (View.set_slice_subset _ _)) $$ H
  iintro H
  rw [show (M.access r).read (Elt F) f = fun _ => X (ix1 0) by
    rw [← hf]; exact funext fun x => congrArg (M.view.read (Elt F) f) (Subsingleton.elim (α := S1.Idx) (r.emb x) (ix1 0))]
  iapply Hk
  iexists f
  isplitr; · ipureintro; exact hf
  iexact H

end Whole

end Cert.Proof.Ring
end
-- ==== Proof.Parts1.lean ====
/-
The first third of the program: the device rounds its block, meets its partners, sends them its block, and rounds its
columns of the weights. One theorem per piece of the program, saying what the piece takes and what it gives.
-/
module

public import proofs.«01_k».proof.Proof.Pieces

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ UU ℕ

variable (K : Dev nD × Cell → ℕ) (m : (ℓ : Loc nD τ sig) → Buf (Elt F) ℓ)

/-- The staged scales. -/
abbrev Scales (c : Dev nD) : sProp 𝕄 :=
  iprop(owns (c : Thread nD τ) (Memref.whole cc0_stg0_0 : Memref sig .tc .smem S1 .f32) fullShare (m ((c : Thread nD τ).loc main_arg2))
    ∗ owns (c : Thread nD τ) (Memref.whole cc0_stg1_0 : Memref sig .tc .smem S1 .f32) fullShare (m ((c : Thread nD τ).loc main_arg3)))

/-- A program that reads the two scales, multiplies them, and hands on words that depend on the device alone. -/
theorem read_scales (c : Dev nD) (g2 g8 g11 g17 g23 g30 : Dev nD → BitVec 32) {hl hl'} (z : S1.Idx)
    {Q : (Σ' (_ : Dev nD) (_ : BitVec 32) (_ : F .f32) (_ : BitVec 32) (_ : BitVec 32) (_ : BitVec 32) (_ : BitVec 32), BitVec 32) → sProp 𝕄} :
    Scales m c ⊢ iprop((∀ v2 v8 v11 v17 v23 v30, Scales m c -∗ Q ⟨c, v2, scale m c, v8, v11, v17, v23, v30⟩)
      -∗ run c (.op .deviceId fun d0 =>
          .op (.load (Memref.whole cc0_stg0_0 : Memref sig .tc .smem S1 .f32) (Rect.unit (s := S1) ![0] S1.size inb_S1_S1_0).toLoadRect hl) fun x =>
          .op (.load (Memref.whole cc0_stg1_0 : Memref sig .tc .smem S1 .f32) (Rect.unit (s := S1) ![0] S1.size inb_S1_S1_0).toLoadRect hl') fun y =>
          .ret ⟨d0, g2 d0, k0_pay1 (x z) (y z), g8 d0, g11 d0, g17 d0, g23 d0, g30 d0⟩) Q) := by
  simp only [run, wp_deviceId]
  iintro ⟨H0, H1⟩ Hk
  iapply (wp_scalar c (M := Memref.whole cc0_stg0_0)) $$ H0
  iintro H0
  iapply (wp_scalar c (M := Memref.whole cc0_stg1_0)) $$ H1
  iintro H1
  rw [wp_ret]
  imodintro
  have h : k0_pay1 ((m ((c : Thread nD τ).loc main_arg2) : S1.Idx → Elt F .f32) (ix1 0)) ((m ((c : Thread nD τ).loc main_arg3) : S1.Idx → Elt F .f32) (ix1 0))
      = scale m c := rfl
  rw [h]
  iapply Hk
  isplitl [H0] <;> iassumption

/-- The scales are read and multiplied. -/
theorem part1 (c : Dev nD) {Q : _ → sProp 𝕄} :
    Scales m c ⊢ iprop((∀ v2 v8 v11 v17 v23 v30, Scales m c -∗ Q ⟨c, v2, scale m c, v8, v11, v17, v23, v30⟩)
      -∗ run c (onBuffers (k0_part1 (F := F))) Q) := by
  rw [k0_part1_eq_skeleton]; unfold k0_part1_skel
  simp (config := { zeta := false }) only [onBuffers, smemLoad, smemLoadElt, Prog.lift, Prog.bind_op, Prog.bind_ret, Prog.pure_eq_ret]
  exact read_scales m c _ _ _ _ _ _ _

/-- The copies of the block's halves and of the first piece of the weights start; the top half comes, is rounded, and
    the first partner is told that it may send. -/
theorem part2 (c : Dev nD) (v17 v23) {Q : _ → sProp 𝕄} :
    iprop(Rules m K ∗ HasX m c fullShare.left ∗ HasX m c fullShare.right ∗ HasW m c fullShare.left
        ∗ Any c xIn0 ∗ Any c xIn1 ∗ Any c wIn0 ∗ Any c (slot0 x8)
        ∗ semVal ((c : Thread nD τ), .dma xSem0) 0 ∗ semVal ((c : Thread nD τ), .dma xSem1) 0 ∗ semVal ((c : Thread nD τ), .dma wSem0) 0
        ∗ Sig .maj c ∗ slots .maj c ∗ Left 0 c)
      ⊢ iprop((∀ v58 w, (HasX m c fullShare.left ∗ Copying c xSrc1 xIn1 xSem1 fullShare.right (m ((c : Thread nD τ).loc main_arg0))
            ∗ Copying c (wSrc (k0_off1 c) (k0_off1_inb c)) wIn0 wSem0 fullShare.left (m ((c : Thread nD τ).loc main_arg1))
            ∗ Any c xIn0 ∗ owns (c : Thread nD τ) (slot0 x8) fullShare (half m 0 c)
            ∗ semVal ((c : Thread nD τ), .dma xSem0) 0 ∗ Left 1 c)
            -∗ Q ⟨SemArray.scalar (sig.barrier 0 rfl), v58, w⟩)
          -∗ run c (onBuffers (k0_part2 (F := F)) c v17 v23) Q) := by
  rw [k0_part2_eq_skeleton]; unfold k0_part2_skel
  simp only [run, onBuffers, semSignalWord, Prog.lift, Prog.bind_op, Prog.bind_ret, Prog.pure_eq_ret]
  iintro ⟨⟨#HI, #HL⟩, HX, HX', HW, Hx0, Hx1, Hw0, H8, Hs0, Hs1, Hv0, Hsig, Hsl, HO⟩ Hk
  iapply (wp_copy c (src := xSrc0) (dst := xIn0) (sm := xSem0) (by decide)) $$ [$HX $Hx0 $Hs0]
  iintro HC0
  iapply (wp_copy c (src := xSrc1) (dst := xIn1) (sm := xSem1) (by decide)) $$ [$HX' $Hx1 $Hs1]
  iintro HC1
  iapply (wp_copy c (src := wSrc (k0_off1 c) (k0_off1_inb c)) (dst := wIn0) (sm := wSem0) (by decide)) $$ [$HW $Hw0 $Hv0]
  iintro HC2
  iapply (wp_copied c (src := xSrc0) (dst := xIn0) (sm := xSem0) (order.drop 0) (low_sem role_x0 _)) $$ [$HL $HC0 $HO]
  iintro ⟨HO, Hs0, Hx0, HX⟩
  iapply (wp_read c) $$ Hx0
  iintro Hx0
  icases H8 with ⟨%X, H8⟩
  iapply (wp_read_slot c (by decide)) $$ H8
  iintro H8
  iapply (wp_write_slot c (by decide) (X' := half m 0 c) rfl) $$ H8
  iintro H8
  iapply (wp_sig m K .maj c _ (dev1_eq c) (order.drop 1) rfl) $$ [$HI $Hsig $Hsl $HO]
  iintro HO
  rw [wp_ret]
  imodintro
  iapply Hk
  iframe
  iexists _; iexact Hx0

/-- The other two partners are told; the three partners' word comes, and with it their slots; the top half leaves for
    the first two. -/
theorem part3 (c : Dev nD) (v17 v23 v30 v58 w) {Q : _ → sProp 𝕄} :
    iprop(Rules m K ∗ Sig .min c ∗ slots .min c ∗ Sig .sh c ∗ slots .sh c ∗ Meet c ∗ Left 1 c
        ∗ Ready .majT0 c ∗ Ready .minT0 c ∗ owns (c : Thread nD τ) (slot0 x8) fullShare (half m 0 c))
      ⊢ iprop((∀ v82 w', (Left 5 c ∗ Idle .bar c
            ∗ slot .majB0 (nb .maj c) ∗ slot .majT1 (nb .maj c) ∗ slot .majB1 (nb .maj c)
            ∗ slot .minB0 (nb .min c) ∗ slot .minT1 (nb .min c) ∗ slot .minB1 (nb .min c) ∗ slot .minT2 (nb .min c)
            ∗ slot .shT0 (nb .sh c) ∗ slot .shB0 (nb .sh c) ∗ slot .shT1 (nb .sh c) ∗ slot .shB1 (nb .sh c) ∗ slot .shB2 (nb .sh c)
            ∗ Flying .majT0 c ∗ Flying .minT0 c
            ∗ owns (c : Thread nD τ) (slot0 x8) fullShare.right.right.left (half m 0 c)
            ∗ owns (c : Thread nD τ) (slot0 x8) fullShare.right.right.right (half m 0 c))
            -∗ Q ⟨v82, w'⟩)
          -∗ run c (onBuffers (k0_part3 (F := F)) c v17 v23 v30 (SemArray.scalar (sig.barrier 0 rfl)) v58 w) Q) := by
  rw [k0_part3_eq_skeleton]; unfold k0_part3_skel
  simp only [run, onBuffers, semSignalWord, semWaitWord, Prog.lift, Prog.bind_op, Prog.bind_ret, Prog.pure_eq_ret]
  iintro ⟨⟨#HI, #HL⟩, Hsig2, Hsl2, Hsig3, Hsl3, Hmeet, HO, HR1, HR2, H8⟩ Hk
  iapply (wp_sig m K .min c _ (dev2_eq c) (order.drop 2) rfl) $$ [$HI $Hsig2 $Hsl2 $HO]
  iintro HO
  iapply (wp_sig m K .sh c _ (dev3_eq c) (order.drop 3) rfl) $$ [$HI $Hsig3 $Hsl3 $HO]
  iintro HO
  iapply (wp_meet m K c (order.drop 3) (by decide) rfl) $$ [$HI $HL $Hmeet $HO]
  rw [slots_maj, slots_min, slots_sh]
  iintro ⟨HO, Hbar, ⟨Hd1, HA2, HA3, HA4⟩, ⟨Hd2, HB2, HB3, HB4, HB5⟩, HC⟩
  ihave H8' := (shares4 c (slot0 x8) fullShare (half m 0 c)).1 $$ H8
  icases H8' with ⟨H81, H82, H83, H84⟩
  iapply (wp_put m K .majT0 c _ (dev4_eq c) (order.drop 4) (congrArg (half m 0) (nb_nb .maj c).symm)) $$ [$HI $HR1 $Hd1 $H81 $HO]
  iintro ⟨HO, HF1⟩
  iapply (wp_put m K .minT0 c _ (dev5_eq c) (order.drop 5) (congrArg (half m 0) (nb_nb .min c).symm)) $$ [$HI $HR2 $Hd2 $H82 $HO]
  iintro ⟨HO, HF2⟩
  rw [wp_ret]
  imodintro
  iapply Hk
  iframe
  iexact HC

/-- The top half leaves for the third partner; the bottom half comes, is rounded, and leaves for the first. -/
theorem part4 (c : Dev nD) (v17 v82 w) {Q : _ → sProp 𝕄} :
    iprop(Rules m K ∗ Left 5 c ∗ Ready .shT0 c ∗ slot .shT0 (nb .sh c) ∗ owns (c : Thread nD τ) (slot0 x8) fullShare.right.right.left (half m 0 c)
        ∗ Copying c xSrc1 xIn1 xSem1 fullShare.right (m ((c : Thread nD τ).loc main_arg0)) ∗ Any c (slot1 x8)
        ∗ Ready .majB0 c ∗ slot .majB0 (nb .maj c))
      ⊢ iprop(((Left 7 c ∗ Flying .shT0 c ∗ HasX m c fullShare.right ∗ semVal ((c : Thread nD τ), .dma xSem1) 0
            ∗ Flying .majB0 c
            ∗ owns (c : Thread nD τ) (slot1 x8) fullShare.right.left (half m 1 c)
            ∗ owns (c : Thread nD τ) (slot1 x8) fullShare.right.right.left (half m 1 c)
            ∗ owns (c : Thread nD τ) (slot1 x8) fullShare.right.right.right (half m 1 c) ∗ Any c xIn1) -∗ Q ⟨⟩)
          -∗ run c (onBuffers (k0_part4 (F := F)) c v17 v82 w) Q) := by
  rw [k0_part4_eq_skeleton]; unfold k0_part4_skel
  simp only [run, onBuffers, semSignalWord, semWaitWord, Prog.lift, Prog.bind_op, Prog.bind_ret, Prog.pure_eq_ret]
  iintro ⟨⟨#HI, #HL⟩, HO, HR1, Hd1, H83, HC1, H8, HR2, Hd2⟩ Hk
  iapply (wp_put m K .shT0 c _ (dev6_eq c) (order.drop 6) (congrArg (half m 0) (nb_nb .sh c).symm)) $$ [$HI $HR1 $Hd1 $H83 $HO]
  iintro ⟨HO, HF1⟩
  iapply (wp_copied c (src := xSrc1) (dst := xIn1) (sm := xSem1) (order.drop 6) (low_sem role_x1 _)) $$ [$HL $HC1 $HO]
  iintro ⟨HO, Hs1, Hx1, HX⟩
  iapply (wp_read c) $$ Hx1
  iintro Hx1
  icases H8 with ⟨%X, H8⟩
  iapply (wp_read_slot c (by decide)) $$ H8
  iintro H8
  iapply (wp_write_slot c (by decide) (X' := half m 1 c) rfl) $$ H8
  iintro H8
  ihave H8' := (shares4 c (slot1 x8) fullShare (half m 1 c)).1 $$ H8
  icases H8' with ⟨H81, H82, H83, H84⟩
  iapply (wp_put m K .majB0 c _ (dev7_eq c) (order.drop 7) (congrArg (half m 1) (nb_nb .maj c).symm)) $$ [$HI $HR2 $Hd2 $H81 $HO]
  iintro ⟨HO, HF2⟩
  rw [wp_ret]
  imodintro
  iapply Hk
  iframe
  iexists _; iexact Hx1

/-- The bottom half leaves for the other two; the second piece of the weights starts to come, the first has come. -/
theorem part5 (c : Dev nD) (v23 v30) {Q : _ → sProp 𝕄} :
    iprop(Rules m K ∗ Left 7 c ∗ Ready .minB0 c ∗ slot .minB0 (nb .min c) ∗ Ready .shB0 c ∗ slot .shB0 (nb .sh c)
        ∗ owns (c : Thread nD τ) (slot1 x8) fullShare.right.left (half m 1 c)
        ∗ owns (c : Thread nD τ) (slot1 x8) fullShare.right.right.left (half m 1 c)
        ∗ HasW m c fullShare.right ∗ Any c wIn1 ∗ semVal ((c : Thread nD τ), .dma wSem1) 0
        ∗ Copying c (wSrc (k0_off1 c) (k0_off1_inb c)) wIn0 wSem0 fullShare.left (m ((c : Thread nD τ).loc main_arg1)))
      ⊢ iprop(((Left 9 c ∗ Flying .minB0 c ∗ Flying .shB0 c
            ∗ Copying c (wSrc (k0_off2 c) (k0_off2_inb c)) wIn1 wSem1 fullShare.right (m ((c : Thread nD τ).loc main_arg1))
            ∗ semVal ((c : Thread nD τ), .dma wSem0) 0
            ∗ owns (c : Thread nD τ) wIn0 fullShare ((wSrc (k0_off1 c) (k0_off1_inb c)).view.read (Elt F) (m ((c : Thread nD τ).loc main_arg1)))
            ∗ HasW m c fullShare.left) -∗ Q ⟨⟩)
          -∗ run c (onBuffers (k0_part5 (F := F)) c v23 v30) Q) := by
  rw [k0_part5_eq_skeleton]; unfold k0_part5_skel
  simp only [run, onBuffers, semSignalWord, semWaitWord, Prog.lift, Prog.bind_op, Prog.bind_ret, Prog.pure_eq_ret]
  iintro ⟨⟨#HI, #HL⟩, HO, HR1, Hd1, HR2, Hd2, H82, H83, HW, Hw1, Hv1, HC0⟩ Hk
  iapply (wp_put m K .minB0 c _ (dev8_eq c) (order.drop 8) (congrArg (half m 1) (nb_nb .min c).symm)) $$ [$HI $HR1 $Hd1 $H82 $HO]
  iintro ⟨HO, HF1⟩
  iapply (wp_put m K .shB0 c _ (dev9_eq c) (order.drop 9) (congrArg (half m 1) (nb_nb .sh c).symm)) $$ [$HI $HR2 $Hd2 $H83 $HO]
  iintro ⟨HO, HF2⟩
  iapply (wp_copy c (src := wSrc (k0_off2 c) (k0_off2_inb c)) (dst := wIn1) (sm := wSem1) (by decide)) $$ [$HW $Hw1 $Hv1]
  iintro HC1
  iapply (wp_copied c (src := wSrc (k0_off1 c) (k0_off1_inb c)) (dst := wIn0) (sm := wSem0) (order.drop 9) (low_sem role_w0 _)) $$ [$HL $HC0 $HO]
  iintro ⟨HO, Hv0, Hw0, HW⟩
  rw [wp_ret]
  imodintro
  iapply Hk
  iframe

/-- The first two pieces of the weights are rounded, the other two start to come. -/
theorem part6 (c : Dev nD) {Q : _ → sProp 𝕄} :
    iprop(Rules m K ∗ Left 9 c ∗ WRows m 0 c
        ∗ owns (c : Thread nD τ) wIn0 fullShare ((wSrc (k0_off1 c) (k0_off1_inb c)).view.read (Elt F) (m ((c : Thread nD τ).loc main_arg1)))
        ∗ HasW m c fullShare.left ∗ semVal ((c : Thread nD τ), .dma wSem0) 0
        ∗ Copying c (wSrc (k0_off2 c) (k0_off2_inb c)) wIn1 wSem1 fullShare.right (m ((c : Thread nD τ).loc main_arg1)))
      ⊢ iprop(((Left 9 c ∗ WRows m 2 c
            ∗ Copying c (wSrc (k0_off3 c) (k0_off3_inb c)) wIn0 wSem0 fullShare.left (m ((c : Thread nD τ).loc main_arg1))
            ∗ Copying c (wSrc (k0_off4 c) (k0_off4_inb c)) wIn1 wSem1 fullShare.right (m ((c : Thread nD τ).loc main_arg1))) -∗ Q ⟨⟩)
          -∗ run c (onBuffers (k0_part6 (F := F)) c) Q) := by
  rw [k0_part6_eq_skeleton]; unfold k0_part6_skel
  simp only [run, onBuffers, semSignalWord, semWaitWord, Prog.lift, Prog.bind_op, Prog.bind_ret, Prog.pure_eq_ret]
  iintro ⟨⟨#HI, #HL⟩, HO, HW8, Hw0, HW, Hv0, HC1⟩ Hk
  iapply (wp_read_slot c (by decide)) $$ Hw0
  iintro Hw0
  iapply (wp_peek_w m 0 c) $$ HW8
  iintro %v HW8
  iapply (wp_write_w m 0 c rfl fun j => (congrFun (w_rounded _ _) j).trans (w_piece m c 0 (k0_off1_eq c) rfl _ _ j)) $$ HW8
  iintro HW8
  iapply (wp_copy c (src := wSrc (k0_off3 c) (k0_off3_inb c)) (dst := wIn0) (sm := wSem0) (by decide)) $$ [$HW Hw0 $Hv0]
  · iexists _; iexact Hw0
  iintro HC0
  iapply (wp_copied c (src := wSrc (k0_off2 c) (k0_off2_inb c)) (dst := wIn1) (sm := wSem1) (order.drop 9) (low_sem role_w1 _)) $$ [$HL $HC1 $HO]
  iintro ⟨HO, Hv1, Hw1, HW⟩
  iapply (wp_read_slot c (by decide)) $$ Hw1
  iintro Hw1
  iapply (wp_peek_w m 1 c) $$ HW8
  iintro %v HW8
  iapply (wp_write_w m 1 c rfl fun j => (congrFun (w_rounded _ _) j).trans (w_piece m c 1 (k0_off2_eq c) rfl _ _ j)) $$ HW8
  iintro HW8
  iapply (wp_copy c (src := wSrc (k0_off4 c) (k0_off4_inb c)) (dst := wIn1) (sm := wSem1) (by decide)) $$ [$HW Hw1 $Hv1]
  · iexists _; iexact Hw1
  iintro HC1
  rw [wp_ret]
  imodintro
  iapply Hk
  iframe

/-- The last two pieces of the weights come and are rounded. -/
theorem part7 (c : Dev nD) (v8 v11) {Q : _ → sProp 𝕄} :
    iprop(Rules m K ∗ Left 9 c ∗ WRows m 2 c
        ∗ Copying c (wSrc (k0_off3 c) (k0_off3_inb c)) wIn0 wSem0 fullShare.left (m ((c : Thread nD τ).loc main_arg1))
        ∗ Copying c (wSrc (k0_off4 c) (k0_off4_inb c)) wIn1 wSem1 fullShare.right (m ((c : Thread nD τ).loc main_arg1)))
      ⊢ iprop((∀ v195 v199, (Left 9 c ∗ owns (c : Thread nD τ) w8 fullShare (wCols m c)
            ∗ HasW m c fullShare.left ∗ HasW m c fullShare.right ∗ Any c wIn0 ∗ Any c wIn1
            ∗ semVal ((c : Thread nD τ), .dma wSem0) 0 ∗ semVal ((c : Thread nD τ), .dma wSem1) 0) -∗ Q ⟨v195, v199⟩)
          -∗ run c (onBuffers (k0_part7 (F := F)) c v8 v11) Q) := by
  rw [k0_part7_eq_skeleton]; unfold k0_part7_skel
  simp only [run, onBuffers, semSignalWord, semWaitWord, Prog.lift, Prog.bind_op, Prog.bind_ret, Prog.pure_eq_ret]
  iintro ⟨⟨#HI, #HL⟩, HO, HW8, HC0, HC1⟩ Hk
  iapply (wp_copied c (src := wSrc (k0_off3 c) (k0_off3_inb c)) (dst := wIn0) (sm := wSem0) (order.drop 9) (low_sem role_w0 _)) $$ [$HL $HC0 $HO]
  iintro ⟨HO, Hv0, Hw0, HW0⟩
  iapply (wp_read_slot c (by decide)) $$ Hw0
  iintro Hw0
  iapply (wp_peek_w m 2 c) $$ HW8
  iintro %v HW8
  iapply (wp_write_w m 2 c rfl fun j => (congrFun (w_rounded _ _) j).trans (w_piece m c 2 (k0_off3_eq c) rfl _ _ j)) $$ HW8
  iintro HW8
  iapply (wp_copied c (src := wSrc (k0_off4 c) (k0_off4_inb c)) (dst := wIn1) (sm := wSem1) (order.drop 9) (low_sem role_w1 _)) $$ [$HL $HC1 $HO]
  iintro ⟨HO, Hv1, Hw1, HW1⟩
  iapply (wp_read_slot c (by decide)) $$ Hw1
  iintro Hw1
  iapply (wp_peek_w m 3 c) $$ HW8
  iintro %v HW8
  iapply (wp_write_w m 3 c rfl fun j => (congrFun (w_rounded _ _) j).trans (w_piece m c 3 (k0_off4_eq c) rfl _ _ j)) $$ HW8
  iintro HW8
  ihave HW8 := (wRows_done m c) $$ HW8
  rw [wp_ret]
  imodintro
  iapply Hk
  iframe
  isplitl [Hw0]
  · iexists _; iexact Hw0
  · iexists _; iexact Hw1

/-- Words alone: nothing is read or written. -/
theorem part8 (c : Dev nD) (v8 v11 v199) {Q : _ → sProp 𝕄} :
    (iprop(∀ r, Q r) : sProp 𝕄) ⊢ run c (onBuffers (k0_part8 (F := F)) v8 v11 v199) Q := by
  rw [k0_part8_eq_skeleton]; unfold k0_part8_skel
  simp only [run, onBuffers, Prog.pure_eq_ret]
  rw [wp_ret]
  iintro H
  imodintro
  iapply H

end Cert.Proof.Ring
end
-- ==== Proof.Parts2.lean ====
/-
The middle of the program: the halves that come are passed on, and the tiles of the first blocks are computed.
-/
module

public import proofs.«01_k».proof.Proof.Pieces

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ UU ℕ

variable (K : Dev nD × Cell → ℕ) (m : (ℓ : Loc nD τ sig) → Buf (Elt F) ℓ)

/-- The top half from the partner on one side has come and leaves for the one on the other side. -/
theorem part9 (c : Dev nD) (v17 v23 v30 v232 v233 w) {Q : _ → sProp 𝕄} :
    iprop(Rules m K
        ∗ Left 9 c
        ∗ Await .minT0 c
        ∗ Ready .majT1 c
        ∗ slot .majT1 (nb .maj c))
      ⊢ iprop((∀ w, (Left 10 c
            ∗ Idle (.rcv .minT0) c
            ∗ Flying .majT1 c
            ∗ owns (c : Thread nD τ) (slot0 majA) fullShare.right.left (half m 0 (nb .min c))
            ∗ owns (c : Thread nD τ) (slot0 majA) fullShare.right.right (half m 0 (nb .min c))) -∗ Q w)
          -∗ run c (onBuffers (k0_part9 (F := F)) c v17 v23 v30 v232 v233 w) Q) := by
  rw [k0_part9_eq_skeleton]; unfold k0_part9_skel
  simp only [run, onBuffers, semSignalWord, semWaitWord, Prog.lift, Prog.bind_op, Prog.bind_ret, Prog.pure_eq_ret]
  iintro ⟨⟨#HI, #HL⟩, HO, HA, HR, Hd⟩ Hk
  iapply (wp_recv m K .minT0 c (order.drop 9) (by decide) (dst_credit .minT0)) $$ [$HI $HL $HA $HO]
  iintro ⟨HO, Hi, H⟩
  ihave Hsp := (shares3 c (slot0 majA) fullShare (half m 0 (nb .min c))).1 $$ H
  icases Hsp with ⟨H1, H2, H3⟩
  iapply (wp_put m K .majT1 c _ (dev10_eq c) (order.drop 10) (congrArg (fun d => half m 0 (nb .min d)) (nb_nb .maj c).symm)) $$ [$HI $HR $Hd $H1 $HO]
  iintro ⟨HO, HF⟩
  rw [wp_ret]
  imodintro
  iapply Hk
  iframe

/-- It leaves for the third partner too; the other side's top half has come and leaves across; the first tile is computed up to the cut. -/
theorem part10 (c : Dev nD) (v2 v5 v17 v23) {Q : _ → sProp 𝕄} :
    iprop(Rules m K
        ∗ Left 10 c
        ∗ Ready .shT1 c
        ∗ slot .shT1 (nb .sh c)
        ∗ owns (c : Thread nD τ) (slot0 majA) fullShare.right.left (half m 0 (nb .min c))
        ∗ Await .majT0 c
        ∗ Ready .minT1 c
        ∗ slot .minT1 (nb .min c)
        ∗ owns (c : Thread nD τ) (slot0 x8) fullShare.right.right.right (half m 0 c)
        ∗ owns (c : Thread nD τ) w8 fullShare (wCols m c))
      ⊢ iprop((∀ v287 X z, (⌜k0_pay9 X z = tile v5 (half m 0 c) (wCols m c)⌝
            ∗ Left 12 c
            ∗ Flying .shT1 c
            ∗ Idle (.rcv .majT0) c
            ∗ Flying .minT1 c
            ∗ owns (c : Thread nD τ) (slot0 minA) fullShare.right (half m 0 (nb .maj c))
            ∗ owns (c : Thread nD τ) (slot0 x8) fullShare.right.right.right (half m 0 c)
            ∗ owns (c : Thread nD τ) w8 fullShare (wCols m c)) -∗ Q ⟨v287, X, z⟩)
          -∗ run c (onBuffers (k0_part10 (F := F)) c v2 v5 v17 v23) Q) := by
  rw [k0_part10_eq_skeleton]; unfold k0_part10_skel
  simp only [run, onBuffers, semSignalWord, semWaitWord, Prog.lift, Prog.bind_op, Prog.bind_ret, Prog.pure_eq_ret]
  iintro ⟨⟨#HI, #HL⟩, HO, HR1, Hd1, HA0, HA, HR2, Hd2, H8, HW⟩ Hk
  iapply (wp_put m K .shT1 c _ (dev11_eq c) (order.drop 11) (congrArg (fun d => half m 0 (nb .min d)) (nb_nb .sh c).symm)) $$ [$HI $HR1 $Hd1 $HA0 $HO]
  iintro ⟨HO, HF1⟩
  iapply (wp_recv m K .majT0 c (order.drop 11) (by decide) (dst_credit .majT0)) $$ [$HI $HL $HA $HO]
  iintro ⟨HO, Hi, H⟩
  ihave Hsp := (shares2 c (slot0 minA) fullShare (half m 0 (nb .maj c))).1 $$ H
  icases Hsp with ⟨H1, H2⟩
  iapply (wp_put m K .minT1 c _ (dev12_eq c) (order.drop 12) (congrArg (fun d => half m 0 (nb .maj d)) (nb_nb .min c).symm)) $$ [$HI $HR2 $Hd2 $H1 $HO]
  iintro ⟨HO, HF2⟩
  iapply (wp_read_slot c (by decide)) $$ H8
  iintro H8
  iapply (wp_read_all c (M := w8) (fun f => Memref.read_access_unit_zero _ cc0_scratch2 (by decide) _ f)) $$ HW
  iintro HW
  rw [wp_ret]
  imodintro
  iapply Hk
  isplitr; · ipureintro; exact tile_cast _ _ _ _ _
  iframe

/-- The two tiles of the device's own block are stored; the bottom half from one side has come. -/
theorem part11 (c : Dev nD) (v2 v5 v17 v23 v287 X z) (hv : v5 = scale m c) (hX : k0_pay9 X z = tile v5 (half m 0 c) (wCols m c)) {Q : _ → sProp 𝕄} :
    iprop(Rules m K
        ∗ Left 12 c
        ∗ Done m 0 c
        ∗ owns (c : Thread nD τ) (slot1 x8) fullShare.right.right.right (half m 1 c)
        ∗ owns (c : Thread nD τ) w8 fullShare (wCols m c)
        ∗ Await .minB0 c)
      ⊢ iprop(((Left 12 c
            ∗ Done m 2 c
            ∗ owns (c : Thread nD τ) (slot1 x8) fullShare.right.right.right (half m 1 c)
            ∗ owns (c : Thread nD τ) w8 fullShare (wCols m c)
            ∗ Idle (.rcv .minB0) c
            ∗ owns (c : Thread nD τ) (slot0 majB) fullShare (half m 1 (nb .min c))) -∗ Q ⟨⟩)
          -∗ run c (onBuffers (k0_part11 (F := F)) c v2 v5 v17 v23 v287 X z) Q) := by
  rw [k0_part11_eq_skeleton]; unfold k0_part11_skel
  simp only [run, onBuffers, semSignalWord, semWaitWord, Prog.lift, Prog.bind_op, Prog.bind_ret, Prog.pure_eq_ret]
  subst hv
  iintro ⟨⟨#HI, #HL⟩, HO, HT, H8, HW, HA⟩ Hk
  iapply (wp_peek_out m _ c) $$ HT
  iintro %v HT
  iapply (wp_tile m ((allTiles c).drop (16 - 0)) (c, 0) c (k0_off5_eq c 0) hX) $$ HT
  iintro HT
  ihave HT := (done_next m 0 c _ rfl) $$ HT
  iapply (wp_read_slot c (by decide)) $$ H8
  iintro H8
  iapply (wp_read_all c (M := w8) (fun f => Memref.read_access_unit_zero _ cc0_scratch2 (by decide) _ f)) $$ HW
  iintro HW
  iapply (wp_peek_out m _ c) $$ HT
  iintro %v HT
  iapply (wp_tile m ((allTiles c).drop (16 - 1)) (c, 1) c (k0_off5_eq c 1) (tile_cast _ _ _ _ _)) $$ HT
  iintro HT
  ihave HT := (done_next m 1 c _ rfl) $$ HT
  iapply (wp_recv m K .minB0 c (order.drop 12) (by decide) (dst_credit .minB0)) $$ [$HI $HL $HA $HO]
  iintro ⟨HO, Hi, H⟩
  rw [wp_ret]
  imodintro
  iapply Hk
  iframe

/-- It leaves for the other two partners; the bottom half from the other side has come. -/
theorem part12 (c : Dev nD) (v17 v23 v30) {Q : _ → sProp 𝕄} :
    iprop(Rules m K
        ∗ Left 12 c
        ∗ owns (c : Thread nD τ) (slot0 majB) fullShare (half m 1 (nb .min c))
        ∗ Ready .majB1 c
        ∗ slot .majB1 (nb .maj c)
        ∗ Ready .shB1 c
        ∗ slot .shB1 (nb .sh c)
        ∗ Await .majB0 c)
      ⊢ iprop(((Left 14 c
            ∗ Flying .majB1 c
            ∗ Flying .shB1 c
            ∗ owns (c : Thread nD τ) (slot0 majB) fullShare.right.right (half m 1 (nb .min c))
            ∗ Idle (.rcv .majB0) c
            ∗ owns (c : Thread nD τ) (slot0 minB) fullShare (half m 1 (nb .maj c))) -∗ Q ⟨⟩)
          -∗ run c (onBuffers (k0_part12 (F := F)) c v17 v23 v30) Q) := by
  rw [k0_part12_eq_skeleton]; unfold k0_part12_skel
  simp only [run, onBuffers, semSignalWord, semWaitWord, Prog.lift, Prog.bind_op, Prog.bind_ret, Prog.pure_eq_ret]
  iintro ⟨⟨#HI, #HL⟩, HO, H, HR1, Hd1, HR2, Hd2, HA⟩ Hk
  ihave Hsp := (shares3 c (slot0 majB) fullShare (half m 1 (nb .min c))).1 $$ H
  icases Hsp with ⟨H1, H2, H3⟩
  iapply (wp_put m K .majB1 c _ (dev13_eq c) (order.drop 13) (congrArg (fun d => half m 1 (nb .min d)) (nb_nb .maj c).symm)) $$ [$HI $HR1 $Hd1 $H1 $HO]
  iintro ⟨HO, HF1⟩
  iapply (wp_put m K .shB1 c _ (dev14_eq c) (order.drop 14) (congrArg (fun d => half m 1 (nb .min d)) (nb_nb .sh c).symm)) $$ [$HI $HR2 $Hd2 $H2 $HO]
  iintro ⟨HO, HF2⟩
  iapply (wp_recv m K .majB0 c (order.drop 14) (by decide) (dst_credit .majB0)) $$ [$HI $HL $HA $HO]
  iintro ⟨HO, Hi, H⟩
  rw [wp_ret]
  imodintro
  iapply Hk
  iframe

/-- That one leaves across; the top half from the third partner has come; the tile of the top half from one side is stored. -/
theorem part13 (c : Dev nD) (v5 v30 v195) (hv : v5 = scale m c) {Q : _ → sProp 𝕄} :
    iprop(Rules m K
        ∗ Left 14 c
        ∗ owns (c : Thread nD τ) (slot0 minB) fullShare (half m 1 (nb .maj c))
        ∗ Ready .minB1 c
        ∗ slot .minB1 (nb .min c)
        ∗ Await .shT0 c
        ∗ owns (c : Thread nD τ) (slot0 majA) fullShare.right.right (half m 0 (nb .min c))
        ∗ owns (c : Thread nD τ) (slot0 minA) fullShare.right (half m 0 (nb .maj c))
        ∗ owns (c : Thread nD τ) w8 fullShare (wCols m c)
        ∗ Done m 2 c)
      ⊢ iprop(((Left 15 c
            ∗ Flying .minB1 c
            ∗ owns (c : Thread nD τ) (slot0 minB) fullShare.right (half m 1 (nb .maj c))
            ∗ Idle (.rcv .shT0) c
            ∗ owns (c : Thread nD τ) (slot0 shA) fullShare (half m 0 (nb .sh c))
            ∗ owns (c : Thread nD τ) (slot0 majA) fullShare.right.right (half m 0 (nb .min c))
            ∗ owns (c : Thread nD τ) (slot0 minA) fullShare.right (half m 0 (nb .maj c))
            ∗ owns (c : Thread nD τ) w8 fullShare (wCols m c)
            ∗ Done m 3 c) -∗ Q ⟨half m 0 (nb .maj c), wCols m c⟩)
          -∗ run c (onBuffers (k0_part13 (F := F)) c v5 v30 v195) Q) := by
  rw [k0_part13_eq_skeleton]; unfold k0_part13_skel
  simp only [run, onBuffers, semSignalWord, semWaitWord, Prog.lift, Prog.bind_op, Prog.bind_ret, Prog.pure_eq_ret]
  subst hv
  iintro ⟨⟨#HI, #HL⟩, HO, H, HR, Hd, HA, HA0, HB0, HW, HT⟩ Hk
  ihave Hsp := (shares2 c (slot0 minB) fullShare (half m 1 (nb .maj c))).1 $$ H
  icases Hsp with ⟨H1, H2⟩
  iapply (wp_put m K .minB1 c _ (dev15_eq c) (order.drop 15) (congrArg (fun d => half m 1 (nb .maj d)) (nb_nb .min c).symm)) $$ [$HI $HR $Hd $H1 $HO]
  iintro ⟨HO, HF⟩
  iapply (wp_recv m K .shT0 c (order.drop 15) (by decide) (dst_credit .shT0)) $$ [$HI $HL $HA $HO]
  iintro ⟨HO, Hi, Hs⟩
  iapply (wp_read_slot c (by decide)) $$ HA0
  iintro HA0
  iapply (wp_read_all c (M := w8) (fun f => Memref.read_access_unit_zero _ cc0_scratch2 (by decide) _ f)) $$ HW
  iintro HW
  iapply (wp_peek_out m _ c) $$ HT
  iintro %v HT
  iapply (wp_tile m ((allTiles c).drop (16 - 2)) (nb .min c, 0) c (off6_at c 0) (tile_cast _ _ _ _ _)) $$ HT
  iintro HT
  ihave HT := (done_next m 2 c _ rfl) $$ HT
  iapply (wp_read_slot c (by decide)) $$ HB0
  iintro HB0
  iapply (wp_read_all c (M := w8) (fun f => Memref.read_access_unit_zero _ cc0_scratch2 (by decide) _ f)) $$ HW
  iintro HW
  rw [wp_ret]
  imodintro
  iapply (at_eq (Q := Q) (a := ⟨half m 0 (nb .maj c), wCols m c⟩) ?_)
  · exact congrArg (fun X => (⟨X, wCols m c⟩ : (_ : FVec F S256x4096 .fp8e4m3) ×' _)) (cast_back _ _)
  · iapply Hk
    iframe

/-- The tiles of the other two partners' top halves are stored; a top half from two steps away has come. -/
theorem part14 (c : Dev nD) (v5 v17 v215 v229) (hv : v5 = scale m c) {Q : _ → sProp 𝕄} :
    iprop(Rules m K
        ∗ Left 15 c
        ∗ Done m 3 c
        ∗ owns (c : Thread nD τ) w8 fullShare (wCols m c)
        ∗ owns (c : Thread nD τ) (slot0 shA) fullShare (half m 0 (nb .sh c))
        ∗ Await .majT1 c)
      ⊢ iprop(((Left 15 c
            ∗ Done m 5 c
            ∗ owns (c : Thread nD τ) w8 fullShare (wCols m c)
            ∗ owns (c : Thread nD τ) (slot0 shA) fullShare (half m 0 (nb .sh c))
            ∗ Idle (.rcv .majT1) c
            ∗ owns (c : Thread nD τ) (slot1 minA) fullShare (half m 0 (nb .min (nb .maj c)))) -∗ Q ⟨⟩)
          -∗ run c (onBuffers (k0_part14 (F := F)) c v5 v17 v215 v229 (half m 0 (nb .maj c)) (wCols m c)) Q) := by
  rw [k0_part14_eq_skeleton]; unfold k0_part14_skel
  simp only [run, onBuffers, semSignalWord, semWaitWord, Prog.lift, Prog.bind_op, Prog.bind_ret, Prog.pure_eq_ret]
  subst hv
  iintro ⟨⟨#HI, #HL⟩, HO, HT, HW, Hs, HA⟩ Hk
  iapply (wp_peek_out m _ c) $$ HT
  iintro %v HT
  iapply (wp_tile m ((allTiles c).drop (16 - 3)) (nb .maj c, 0) c (off7_at c 0) rfl) $$ HT
  iintro HT
  ihave HT := (done_next m 3 c _ rfl) $$ HT
  iapply (wp_read_slot c (by decide)) $$ Hs
  iintro Hs
  iapply (wp_read_all c (M := w8) (fun f => Memref.read_access_unit_zero _ cc0_scratch2 (by decide) _ f)) $$ HW
  iintro HW
  iapply (wp_peek_out m _ c) $$ HT
  iintro %v HT
  iapply (wp_tile m ((allTiles c).drop (16 - 4)) (nb .sh c, 0) c (off8_3 c 0) (tile_cast _ _ _ _ _)) $$ HT
  iintro HT
  ihave HT := (done_next m 4 c _ rfl) $$ HT
  iapply (wp_recv m K .majT1 c (order.drop 15) (by decide) (dst_credit .majT1)) $$ [$HI $HL $HA $HO]
  iintro ⟨HO, Hi, H⟩
  rw [wp_ret]
  imodintro
  iapply Hk
  iframe

/-- It leaves for the last hop; the bottom half from the third partner has come; the tile of the bottom half from one side is stored. -/
theorem part15 (c : Dev nD) (v5 v23 v30 v195) (hv : v5 = scale m c) {Q : _ → sProp 𝕄} :
    iprop(Rules m K
        ∗ Left 15 c
        ∗ owns (c : Thread nD τ) (slot1 minA) fullShare (half m 0 (nb .min (nb .maj c)))
        ∗ Ready .minT2 c
        ∗ slot .minT2 (nb .min c)
        ∗ Await .shB0 c
        ∗ owns (c : Thread nD τ) (slot0 majB) fullShare.right.right (half m 1 (nb .min c))
        ∗ owns (c : Thread nD τ) w8 fullShare (wCols m c)
        ∗ Done m 5 c
        ∗ owns (c : Thread nD τ) (slot0 minB) fullShare.right (half m 1 (nb .maj c)))
      ⊢ iprop(((Left 16 c
            ∗ Flying .minT2 c
            ∗ owns (c : Thread nD τ) (slot1 minA) fullShare.right (half m 0 (nb .min (nb .maj c)))
            ∗ Idle (.rcv .shB0) c
            ∗ owns (c : Thread nD τ) (slot0 shB) fullShare (half m 1 (nb .sh c))
            ∗ owns (c : Thread nD τ) (slot0 majB) fullShare.right.right (half m 1 (nb .min c))
            ∗ owns (c : Thread nD τ) w8 fullShare (wCols m c)
            ∗ Done m 6 c
            ∗ owns (c : Thread nD τ) (slot0 minB) fullShare.right (half m 1 (nb .maj c))) -∗ Q (half m 1 (nb .maj c)))
          -∗ run c (onBuffers (k0_part15 (F := F)) c v5 v23 v30 v195) Q) := by
  rw [k0_part15_eq_skeleton]; unfold k0_part15_skel
  simp only [run, onBuffers, semSignalWord, semWaitWord, Prog.lift, Prog.bind_op, Prog.bind_ret, Prog.pure_eq_ret]
  subst hv
  iintro ⟨⟨#HI, #HL⟩, HO, H, HR, Hd, HA, HB0, HW, HT, HN0⟩ Hk
  ihave Hsp := (shares2 c (slot1 minA) fullShare (half m 0 (nb .min (nb .maj c)))).1 $$ H
  icases Hsp with ⟨H1, H2⟩
  iapply (wp_put m K .minT2 c _ (dev16_eq c) (order.drop 16) (congrArg (fun d => half m 0 (nb .min (nb .maj d))) (nb_nb .min c).symm)) $$ [$HI $HR $Hd $H1 $HO]
  iintro ⟨HO, HF⟩
  iapply (wp_recv m K .shB0 c (order.drop 16) (by decide) (dst_credit .shB0)) $$ [$HI $HL $HA $HO]
  iintro ⟨HO, Hi, Hs⟩
  iapply (wp_read_slot c (by decide)) $$ HB0
  iintro HB0
  iapply (wp_read_all c (M := w8) (fun f => Memref.read_access_unit_zero _ cc0_scratch2 (by decide) _ f)) $$ HW
  iintro HW
  iapply (wp_peek_out m _ c) $$ HT
  iintro %v HT
  iapply (wp_tile m ((allTiles c).drop (16 - 5)) (nb .min c, 1) c (off6_at c 1) (tile_cast _ _ _ _ _)) $$ HT
  iintro HT
  ihave HT := (done_next m 5 c _ rfl) $$ HT
  iapply (wp_read_slot c (by decide)) $$ HN0
  iintro HN0
  rw [wp_ret]
  imodintro
  iapply (at_eq (Q := Q) (a := (half m 1 (nb .maj c))) ?_)
  · exact cast_back _ _
  · iapply Hk
    iframe

/-- The tiles of the other two partners' bottom halves are stored; the tile of the top half from two steps away is computed. -/
theorem part16 (c : Dev nD) (v5 v215 v222 v229) (hv : v5 = scale m c) {Q : _ → sProp 𝕄} :
    iprop(Done m 6 c
        ∗ owns (c : Thread nD τ) w8 fullShare (wCols m c)
        ∗ owns (c : Thread nD τ) (slot0 shB) fullShare (half m 1 (nb .sh c))
        ∗ owns (c : Thread nD τ) (slot1 minA) fullShare.right (half m 0 (nb .min (nb .maj c))))
      ⊢ iprop((∀ v461, (Done m 8 c
            ∗ owns (c : Thread nD τ) w8 fullShare (wCols m c)
            ∗ owns (c : Thread nD τ) (slot0 shB) fullShare (half m 1 (nb .sh c))
            ∗ owns (c : Thread nD τ) (slot1 minA) fullShare.right (half m 0 (nb .min (nb .maj c)))) -∗ Q ⟨v461, tile (scale m c) (half m 0 (nb .min (nb .maj c))) (wCols m c)⟩)
          -∗ run c (onBuffers (k0_part16 (F := F)) c v5 v215 v222 v229 (half m 1 (nb .maj c))) Q) := by
  rw [k0_part16_eq_skeleton]; unfold k0_part16_skel
  simp only [run, onBuffers, semSignalWord, semWaitWord, Prog.lift, Prog.bind_op, Prog.bind_ret, Prog.pure_eq_ret]
  subst hv
  iintro ⟨HT, HW, Hs, HN1⟩ Hk
  iapply (wp_read_all c (M := w8) (fun f => Memref.read_access_unit_zero _ cc0_scratch2 (by decide) _ f)) $$ HW
  iintro HW
  iapply (wp_peek_out m _ c) $$ HT
  iintro %v HT
  iapply (wp_tile m ((allTiles c).drop (16 - 6)) (nb .maj c, 1) c (off7_at c 1) rfl) $$ HT
  iintro HT
  ihave HT := (done_next m 6 c _ rfl) $$ HT
  iapply (wp_read_slot c (by decide)) $$ Hs
  iintro Hs
  iapply (wp_read_all c (M := w8) (fun f => Memref.read_access_unit_zero _ cc0_scratch2 (by decide) _ f)) $$ HW
  iintro HW
  iapply (wp_peek_out m _ c) $$ HT
  iintro %v HT
  iapply (wp_tile m ((allTiles c).drop (16 - 7)) (nb .sh c, 1) c (off8_3 c 1) (tile_cast _ _ _ _ _)) $$ HT
  iintro HT
  ihave HT := (done_next m 7 c _ rfl) $$ HT
  iapply (wp_read_slot c (by decide)) $$ HN1
  iintro HN1
  iapply (wp_read_all c (M := w8) (fun f => Memref.read_access_unit_zero _ cc0_scratch2 (by decide) _ f)) $$ HW
  iintro HW
  rw [wp_ret]
  imodintro
  iapply (at_eq (Q := Q) (a := ⟨_, tile (scale m c) (half m 0 (nb .min (nb .maj c))) (wCols m c)⟩) ?_)
  · exact congrArg (fun X => (⟨_, X⟩ : (_ : BitVec 32) ×' _)) (tile_cast _ _ _ _ _)
  · iapply Hk
    iframe

end Cert.Proof.Ring
end
-- ==== Proof.Parts3.lean ====
/-
The end of the program: the last hops, the tiles of the blocks from two and three steps away, and the waits for the
device's own copies to have left.
-/
module

public import proofs.«01_k».proof.Proof.Pieces

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ UU ℕ

variable (K : Dev nD × Cell → ℕ) (m : (ℓ : Loc nD τ sig) → Buf (Elt F) ℓ)

/-- That tile is stored; the bottom half from two steps away on the other side has come and leaves for the last hop; the top half too has come. -/
theorem part17 (c : Dev nD) (v23 v30 v461) {Q : _ → sProp 𝕄} :
    iprop(Rules m K
        ∗ Left 16 c
        ∗ Done m 8 c
        ∗ Await .minB1 c
        ∗ Ready .shB2 c
        ∗ slot .shB2 (nb .sh c)
        ∗ Await .minT1 c)
      ⊢ iprop(((Left 17 c
            ∗ Done m 9 c
            ∗ Idle (.rcv .minB1) c
            ∗ Flying .shB2 c
            ∗ owns (c : Thread nD τ) (slot1 majB) fullShare.right (half m 1 (nb .maj (nb .min c)))
            ∗ Idle (.rcv .minT1) c
            ∗ owns (c : Thread nD τ) (slot1 majA) fullShare (half m 0 (nb .maj (nb .min c)))) -∗ Q ⟨⟩)
          -∗ run c (onBuffers (k0_part17 (F := F)) c v23 v30 v461 (tile (scale m c) (half m 0 (nb .min (nb .maj c))) (wCols m c))) Q) := by
  rw [k0_part17_eq_skeleton]; unfold k0_part17_skel
  simp only [run, onBuffers, semSignalWord, semWaitWord, Prog.lift, Prog.bind_op, Prog.bind_ret, Prog.pure_eq_ret]
  iintro ⟨⟨#HI, #HL⟩, HO, HT, HA, HR, Hd, HA2⟩ Hk
  iapply (wp_peek_out m _ c) $$ HT
  iintro %v HT
  iapply (wp_tile m ((allTiles c).drop (16 - 8)) (nb .min (nb .maj c), 0) c (off8_2 c 0) rfl) $$ HT
  iintro HT
  ihave HT := (done_next m 8 c _ rfl) $$ HT
  iapply (wp_recv m K .minB1 c (order.drop 16) (by decide) (dst_credit .minB1)) $$ [$HI $HL $HA $HO]
  iintro ⟨HO, Hi, H⟩
  ihave Hsp := (shares2 c (slot1 majB) fullShare (half m 1 (nb .maj (nb .min c)))).1 $$ H
  icases Hsp with ⟨H1, H2⟩
  iapply (wp_put m K .shB2 c _ (dev17_eq c) (order.drop 17) (congrArg (fun d => half m 1 (nb .maj (nb .min d))) (nb_nb .sh c).symm)) $$ [$HI $HR $Hd $H1 $HO]
  iintro ⟨HO, HF⟩
  iapply (wp_recv m K .minT1 c (order.drop 17) (by decide) (dst_credit .minT1)) $$ [$HI $HL $HA2 $HO]
  iintro ⟨HO, Hi2, Ha⟩
  rw [wp_ret]
  imodintro
  iapply Hk
  iframe

/-- Its tile is stored; the top half from the block two steps away over the third partner has come, and its tile is computed. -/
theorem part18 (c : Dev nD) (v5 v30 v202 v235) (hv : v5 = scale m c) {Q : _ → sProp 𝕄} :
    iprop(Rules m K
        ∗ Left 17 c
        ∗ Await .shT1 c
        ∗ owns (c : Thread nD τ) (slot1 majA) fullShare (half m 0 (nb .maj (nb .min c)))
        ∗ owns (c : Thread nD τ) w8 fullShare (wCols m c)
        ∗ Done m 9 c)
      ⊢ iprop(((Left 17 c
            ∗ Idle (.rcv .shT1) c
            ∗ owns (c : Thread nD τ) (slot1 majA) fullShare (half m 0 (nb .maj (nb .min c)))
            ∗ owns (c : Thread nD τ) (slot1 shA) fullShare (half m 0 (nb .min (nb .sh c)))
            ∗ owns (c : Thread nD τ) w8 fullShare (wCols m c)
            ∗ Done m 10 c) -∗ Q (tile (scale m c) (half m 0 (nb .min (nb .sh c))) (wCols m c)))
          -∗ run c (onBuffers (k0_part18 (F := F)) c v5 v30 v202 v235) Q) := by
  rw [k0_part18_eq_skeleton]; unfold k0_part18_skel
  simp only [run, onBuffers, semSignalWord, semWaitWord, Prog.lift, Prog.bind_op, Prog.bind_ret, Prog.pure_eq_ret]
  subst hv
  iintro ⟨⟨#HI, #HL⟩, HO, HA, Ha, HW, HT⟩ Hk
  iapply (wp_recv m K .shT1 c (order.drop 17) (by decide) (dst_credit .shT1)) $$ [$HI $HL $HA $HO]
  iintro ⟨HO, Hi, Hs⟩
  ihave Hs := (show owns (c : Thread nD τ) (dstM .shT1) fullShare (landed m .shT1 c) ⊢ owns (c : Thread nD τ) (slot1 shA) fullShare (half m 0 (nb .min (nb .sh c))) from .rfl) $$ Hs
  iapply (wp_read_slot c (by decide)) $$ Ha
  iintro Ha
  iapply (wp_read_all c (M := w8) (fun f => Memref.read_access_unit_zero _ cc0_scratch2 (by decide) _ f)) $$ HW
  iintro HW
  iapply (wp_peek_out m _ c) $$ HT
  iintro %v HT
  iapply (wp_tile m ((allTiles c).drop (16 - 9)) (nb .maj (nb .min c), 0) c (off9_2 c 0) (tile_cast _ _ _ _ _)) $$ HT
  iintro HT
  ihave HT := (done_next m 9 c _ rfl) $$ HT
  iapply (wp_read_slot c (by decide)) $$ Hs
  iintro Hs
  iapply (wp_read_all c (M := w8) (fun f => Memref.read_access_unit_zero _ cc0_scratch2 (by decide) _ f)) $$ HW
  iintro HW
  rw [wp_ret]
  imodintro
  iapply (at_eq (Q := Q) (a := (tile (scale m c) (half m 0 (nb .min (nb .sh c))) (wCols m c))) ?_)
  · exact tile_cast _ _ _ _ _
  · iapply Hk
    iframe

/-- That tile is stored; the last two bottom halves from two steps away have come; the tile of the first is computed. -/
theorem part19 (c : Dev nD) (v5 v17 v30 v202) (hv : v5 = scale m c) {Q : _ → sProp 𝕄} :
    iprop(Rules m K
        ∗ Left 17 c
        ∗ Done m 10 c
        ∗ Await .majB1 c
        ∗ Await .shB1 c
        ∗ owns (c : Thread nD τ) (slot1 majB) fullShare.right (half m 1 (nb .maj (nb .min c)))
        ∗ owns (c : Thread nD τ) w8 fullShare (wCols m c))
      ⊢ iprop((∀ v545, (Left 17 c
            ∗ Done m 11 c
            ∗ Idle (.rcv .majB1) c
            ∗ owns (c : Thread nD τ) (slot1 minB) fullShare (half m 1 (nb .min (nb .maj c)))
            ∗ Idle (.rcv .shB1) c
            ∗ owns (c : Thread nD τ) (slot1 shB) fullShare (half m 1 (nb .min (nb .sh c)))
            ∗ owns (c : Thread nD τ) (slot1 majB) fullShare.right (half m 1 (nb .maj (nb .min c)))
            ∗ owns (c : Thread nD τ) w8 fullShare (wCols m c)) -∗ Q ⟨v545, tile (scale m c) (half m 1 (nb .maj (nb .min c))) (wCols m c)⟩)
          -∗ run c (onBuffers (k0_part19 (F := F)) c v5 v17 v30 v202 (tile (scale m c) (half m 0 (nb .min (nb .sh c))) (wCols m c))) Q) := by
  rw [k0_part19_eq_skeleton]; unfold k0_part19_skel
  simp only [run, onBuffers, semSignalWord, semWaitWord, Prog.lift, Prog.bind_op, Prog.bind_ret, Prog.pure_eq_ret]
  subst hv
  iintro ⟨⟨#HI, #HL⟩, HO, HT, HA1, HA2, Hb, HW⟩ Hk
  iapply (wp_peek_out m _ c) $$ HT
  iintro %v HT
  iapply (wp_tile m ((allTiles c).drop (16 - 10)) (nb .min (nb .sh c), 0) c (off10_at c 0) rfl) $$ HT
  iintro HT
  ihave HT := (done_next m 10 c _ rfl) $$ HT
  iapply (wp_recv m K .majB1 c (order.drop 17) (by decide) (dst_credit .majB1)) $$ [$HI $HL $HA1 $HO]
  iintro ⟨HO, Hi1, Hn⟩
  iapply (wp_recv m K .shB1 c (order.drop 17) (by decide) (dst_credit .shB1)) $$ [$HI $HL $HA2 $HO]
  iintro ⟨HO, Hi2, Hs⟩
  iapply (wp_read_slot c (by decide)) $$ Hb
  iintro Hb
  iapply (wp_read_all c (M := w8) (fun f => Memref.read_access_unit_zero _ cc0_scratch2 (by decide) _ f)) $$ HW
  iintro HW
  rw [wp_ret]
  imodintro
  iapply (at_eq (Q := Q) (a := ⟨_, tile (scale m c) (half m 1 (nb .maj (nb .min c))) (wCols m c)⟩) ?_)
  · exact congrArg (fun X => (⟨_, X⟩ : (_ : BitVec 32) ×' _)) (tile_cast _ _ _ _ _)
  · iapply Hk
    iframe

/-- The three tiles of bottom halves from two steps away are stored. -/
theorem part20 (c : Dev nD) (v5 v23 v222 v235 v545) (hv : v5 = scale m c) {Q : _ → sProp 𝕄} :
    iprop(Done m 11 c
        ∗ owns (c : Thread nD τ) (slot1 minB) fullShare (half m 1 (nb .min (nb .maj c)))
        ∗ owns (c : Thread nD τ) (slot1 shB) fullShare (half m 1 (nb .min (nb .sh c)))
        ∗ owns (c : Thread nD τ) w8 fullShare (wCols m c))
      ⊢ iprop(((Done m 14 c
            ∗ owns (c : Thread nD τ) (slot1 minB) fullShare (half m 1 (nb .min (nb .maj c)))
            ∗ owns (c : Thread nD τ) (slot1 shB) fullShare (half m 1 (nb .min (nb .sh c)))
            ∗ owns (c : Thread nD τ) w8 fullShare (wCols m c)) -∗ Q ⟨⟩)
          -∗ run c (onBuffers (k0_part20 (F := F)) c v5 v23 v222 v235 v545 (tile (scale m c) (half m 1 (nb .maj (nb .min c))) (wCols m c))) Q) := by
  rw [k0_part20_eq_skeleton]; unfold k0_part20_skel
  simp only [run, onBuffers, semSignalWord, semWaitWord, Prog.lift, Prog.bind_op, Prog.bind_ret, Prog.pure_eq_ret]
  subst hv
  iintro ⟨HT, Hn, Hs, HW⟩ Hk
  iapply (wp_peek_out m _ c) $$ HT
  iintro %v HT
  iapply (wp_tile m ((allTiles c).drop (16 - 11)) (nb .maj (nb .min c), 1) c (off9_2 c 1) rfl) $$ HT
  iintro HT
  ihave HT := (done_next m 11 c _ rfl) $$ HT
  iapply (wp_read_slot c (by decide)) $$ Hn
  iintro Hn
  iapply (wp_read_all c (M := w8) (fun f => Memref.read_access_unit_zero _ cc0_scratch2 (by decide) _ f)) $$ HW
  iintro HW
  iapply (wp_peek_out m _ c) $$ HT
  iintro %v HT
  iapply (wp_tile m ((allTiles c).drop (16 - 12)) (nb .min (nb .maj c), 1) c (off8_2 c 1) (tile_cast _ _ _ _ _)) $$ HT
  iintro HT
  ihave HT := (done_next m 12 c _ rfl) $$ HT
  iapply (wp_read_slot c (by decide)) $$ Hs
  iintro Hs
  iapply (wp_read_all c (M := w8) (fun f => Memref.read_access_unit_zero _ cc0_scratch2 (by decide) _ f)) $$ HW
  iintro HW
  iapply (wp_peek_out m _ c) $$ HT
  iintro %v HT
  iapply (wp_tile m ((allTiles c).drop (16 - 13)) (nb .min (nb .sh c), 1) c (off10_at c 1) (tile_cast _ _ _ _ _)) $$ HT
  iintro HT
  ihave HT := (done_next m 13 c _ rfl) $$ HT
  rw [wp_ret]
  imodintro
  iapply Hk
  iframe

/-- The two halves of the farthest block come, and their tiles are stored. -/
theorem part21 (c : Dev nD) (v5 v30 v209) (hv : v5 = scale m c) {Q : _ → sProp 𝕄} :
    iprop(Rules m K
        ∗ Left 17 c
        ∗ Await .minT2 c
        ∗ Await .shB2 c
        ∗ Done m 14 c
        ∗ owns (c : Thread nD τ) w8 fullShare (wCols m c))
      ⊢ iprop(((Left 17 c
            ∗ Idle (.rcv .minT2) c
            ∗ Idle (.rcv .shB2) c
            ∗ owns (c : Thread nD τ) majH fullShare (half m 0 (nb .min (nb .maj (nb .min c))))
            ∗ owns (c : Thread nD τ) shH fullShare (half m 1 (nb .maj (nb .min (nb .sh c))))
            ∗ Done m 16 c
            ∗ owns (c : Thread nD τ) w8 fullShare (wCols m c)) -∗ Q ⟨⟩)
          -∗ run c (onBuffers (k0_part21 (F := F)) c v5 v30 v209) Q) := by
  rw [k0_part21_eq_skeleton]; unfold k0_part21_skel
  simp only [run, onBuffers, semSignalWord, semWaitWord, Prog.lift, Prog.bind_op, Prog.bind_ret, Prog.pure_eq_ret]
  subst hv
  iintro ⟨⟨#HI, #HL⟩, HO, HA1, HA2, HT, HW⟩ Hk
  iapply (wp_recv m K .minT2 c (order.drop 17) (by decide) (dst_credit .minT2)) $$ [$HI $HL $HA1 $HO]
  iintro ⟨HO, Hi1, Hm⟩
  iapply (wp_read_all c (M := majH) (fun f => Memref.read_access_unit_zero _ cc0_scratch10 (by decide) _ f)) $$ Hm
  iintro Hm
  iapply (wp_read_all c (M := w8) (fun f => Memref.read_access_unit_zero _ cc0_scratch2 (by decide) _ f)) $$ HW
  iintro HW
  iapply (wp_peek_out m _ c) $$ HT
  iintro %v HT
  iapply (wp_tile m ((allTiles c).drop (16 - 14)) (nb .min (nb .maj (nb .min c)), 0) c (off9_3 c 0) rfl) $$ HT
  iintro HT
  ihave HT := (done_next m 14 c _ rfl) $$ HT
  iapply (wp_recv m K .shB2 c (order.drop 17) (by decide) (dst_credit .shB2)) $$ [$HI $HL $HA2 $HO]
  iintro ⟨HO, Hi2, Hs⟩
  iapply (wp_read_all c (M := shH) (fun f => Memref.read_access_unit_zero _ cc0_scratch11 (by decide) _ f)) $$ Hs
  iintro Hs
  iapply (wp_read_all c (M := w8) (fun f => Memref.read_access_unit_zero _ cc0_scratch2 (by decide) _ f)) $$ HW
  iintro HW
  iapply (wp_peek_out m _ c) $$ HT
  iintro %v HT
  iapply (wp_tile m ((allTiles c).drop (16 - 15)) (nb .maj (nb .min (nb .sh c)), 1) c (off9_3' c 1) rfl) $$ HT
  iintro HT
  ihave HT := (done_next m 15 c _ rfl) $$ HT
  rw [wp_ret]
  imodintro
  iapply Hk
  iframe

/-- The device's own halves have left: both for one side, the top one for the other. -/
theorem part22 (c : Dev nD) {Q : _ → sProp 𝕄} :
    iprop(Rules m K
        ∗ Left 17 c
        ∗ Flying .majT0 c
        ∗ Flying .majB0 c
        ∗ Flying .minT0 c)
      ⊢ iprop(((Left 17 c
            ∗ Idle (.snd .majT0) c
            ∗ owns (c : Thread nD τ) (slot0 x8) fullShare.left (half m 0 c)
            ∗ Idle (.snd .majB0) c
            ∗ owns (c : Thread nD τ) (slot1 x8) fullShare.left (half m 1 c)
            ∗ Idle (.snd .minT0) c
            ∗ owns (c : Thread nD τ) (slot0 x8) fullShare.right.left (half m 0 c)) -∗ Q ⟨⟩)
          -∗ run c (onBuffers (k0_part22 (F := F))) Q) := by
  rw [k0_part22_eq_skeleton]; unfold k0_part22_skel
  simp only [run, onBuffers, semSignalWord, semWaitWord, Prog.lift, Prog.bind_op, Prog.bind_ret, Prog.pure_eq_ret]
  iintro ⟨⟨#HI, #HL⟩, HO, HF0, HF1, HF2⟩ Hk
  iapply (wp_back m K .majT0 c (congrArg (fun d => half m 0 (d)) (nb_nb .maj c).symm) (src_credit .majT0)) $$ [$HI $HL $HF0 $HO]
  iintro ⟨HO, Hi0, H0⟩
  iapply (wp_back m K .majB0 c (congrArg (fun d => half m 1 (d)) (nb_nb .maj c).symm) (src_credit .majB0)) $$ [$HI $HL $HF1 $HO]
  iintro ⟨HO, Hi1, H1⟩
  iapply (wp_back m K .minT0 c (congrArg (fun d => half m 0 (d)) (nb_nb .min c).symm) (src_credit .minT0)) $$ [$HI $HL $HF2 $HO]
  iintro ⟨HO, Hi2, H2⟩
  rw [wp_ret]
  imodintro
  iapply Hk
  iframe
  iexact HO

/-- Its other three have left, and the first half passed on. -/
theorem part23 (c : Dev nD) {Q : _ → sProp 𝕄} :
    iprop(Rules m K
        ∗ Left 17 c
        ∗ Flying .minB0 c
        ∗ Flying .shT0 c
        ∗ Flying .shB0 c
        ∗ Flying .majT1 c)
      ⊢ iprop(((Left 17 c
            ∗ Idle (.snd .minB0) c
            ∗ owns (c : Thread nD τ) (slot1 x8) fullShare.right.left (half m 1 c)
            ∗ Idle (.snd .shT0) c
            ∗ owns (c : Thread nD τ) (slot0 x8) fullShare.right.right.left (half m 0 c)
            ∗ Idle (.snd .shB0) c
            ∗ owns (c : Thread nD τ) (slot1 x8) fullShare.right.right.left (half m 1 c)
            ∗ Idle (.snd .majT1) c
            ∗ owns (c : Thread nD τ) (slot0 majA) fullShare.left (half m 0 (nb .min c))) -∗ Q ⟨⟩)
          -∗ run c (onBuffers (k0_part23 (F := F))) Q) := by
  rw [k0_part23_eq_skeleton]; unfold k0_part23_skel
  simp only [run, onBuffers, semSignalWord, semWaitWord, Prog.lift, Prog.bind_op, Prog.bind_ret, Prog.pure_eq_ret]
  iintro ⟨⟨#HI, #HL⟩, HO, HF0, HF1, HF2, HF3⟩ Hk
  iapply (wp_back m K .minB0 c (congrArg (fun d => half m 1 (d)) (nb_nb .min c).symm) (src_credit .minB0)) $$ [$HI $HL $HF0 $HO]
  iintro ⟨HO, Hi0, H0⟩
  iapply (wp_back m K .shT0 c (congrArg (fun d => half m 0 (d)) (nb_nb .sh c).symm) (src_credit .shT0)) $$ [$HI $HL $HF1 $HO]
  iintro ⟨HO, Hi1, H1⟩
  iapply (wp_back m K .shB0 c (congrArg (fun d => half m 1 (d)) (nb_nb .sh c).symm) (src_credit .shB0)) $$ [$HI $HL $HF2 $HO]
  iintro ⟨HO, Hi2, H2⟩
  iapply (wp_back m K .majT1 c (congrArg (fun d => half m 0 (nb .min d)) (nb_nb .maj c).symm) (src_credit .majT1)) $$ [$HI $HL $HF3 $HO]
  iintro ⟨HO, Hi3, H3⟩
  rw [wp_ret]
  imodintro
  iapply Hk
  iframe
  iexact HO

/-- Four more halves passed on have left. -/
theorem part24 (c : Dev nD) {Q : _ → sProp 𝕄} :
    iprop(Rules m K
        ∗ Left 17 c
        ∗ Flying .majB1 c
        ∗ Flying .minT1 c
        ∗ Flying .minB1 c
        ∗ Flying .shT1 c)
      ⊢ iprop(((Left 17 c
            ∗ Idle (.snd .majB1) c
            ∗ owns (c : Thread nD τ) (slot0 majB) fullShare.left (half m 1 (nb .min c))
            ∗ Idle (.snd .minT1) c
            ∗ owns (c : Thread nD τ) (slot0 minA) fullShare.left (half m 0 (nb .maj c))
            ∗ Idle (.snd .minB1) c
            ∗ owns (c : Thread nD τ) (slot0 minB) fullShare.left (half m 1 (nb .maj c))
            ∗ Idle (.snd .shT1) c
            ∗ owns (c : Thread nD τ) (slot0 majA) fullShare.right.left (half m 0 (nb .min c))) -∗ Q ⟨⟩)
          -∗ run c (onBuffers (k0_part24 (F := F))) Q) := by
  rw [k0_part24_eq_skeleton]; unfold k0_part24_skel
  simp only [run, onBuffers, semSignalWord, semWaitWord, Prog.lift, Prog.bind_op, Prog.bind_ret, Prog.pure_eq_ret]
  iintro ⟨⟨#HI, #HL⟩, HO, HF0, HF1, HF2, HF3⟩ Hk
  iapply (wp_back m K .majB1 c (congrArg (fun d => half m 1 (nb .min d)) (nb_nb .maj c).symm) (src_credit .majB1)) $$ [$HI $HL $HF0 $HO]
  iintro ⟨HO, Hi0, H0⟩
  iapply (wp_back m K .minT1 c (congrArg (fun d => half m 0 (nb .maj d)) (nb_nb .min c).symm) (src_credit .minT1)) $$ [$HI $HL $HF1 $HO]
  iintro ⟨HO, Hi1, H1⟩
  iapply (wp_back m K .minB1 c (congrArg (fun d => half m 1 (nb .maj d)) (nb_nb .min c).symm) (src_credit .minB1)) $$ [$HI $HL $HF2 $HO]
  iintro ⟨HO, Hi2, H2⟩
  iapply (wp_back m K .shT1 c (congrArg (fun d => half m 0 (nb .min d)) (nb_nb .sh c).symm) (src_credit .shT1)) $$ [$HI $HL $HF3 $HO]
  iintro ⟨HO, Hi3, H3⟩
  rw [wp_ret]
  imodintro
  iapply Hk
  iframe
  iexact HO

end Cert.Proof.Ring
end
-- ==== Proof.Body.lean ====
/-
The whole program on one device: its pieces, one after the other.
-/
module

public import proofs.«01_k».proof.Proof.Parts1
public import proofs.«01_k».proof.Proof.Parts2
public import proofs.«01_k».proof.Proof.Parts3

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ UU ℕ

variable (K : Dev nD × Cell → ℕ) (m : (ℓ : Loc nD τ sig) → Buf (Elt F) ℓ)

/-- The device's block of `x` and its weights, in two shares each. -/
abbrev Args (c : Dev nD) : sProp 𝕄 :=
  iprop(HasX m c fullShare.left ∗ HasX m c fullShare.right ∗ HasW m c fullShare.left ∗ HasW m c fullShare.right)

/-- The semaphores of the copies within the device, at zero. -/
abbrev Local (c : Dev nD) : sProp 𝕄 :=
  iprop(semVal ((c : Thread nD τ), .dma xSem0) 0 ∗ semVal ((c : Thread nD τ), .dma xSem1) 0
    ∗ semVal ((c : Thread nD τ), .dma wSem0) 0 ∗ semVal ((c : Thread nD τ), .dma wSem1) 0)

/-- The buffers, at whatever they hold: what is loaded, what is rounded, and the slots into which the partners send. -/
abbrev Bufs (c : Dev nD) : sProp 𝕄 :=
  iprop(Any c xIn0 ∗ Any c xIn1 ∗ Any c wIn0 ∗ Any c wIn1 ∗ Any c (slot0 x8) ∗ Any c (slot1 x8) ∗ Any c w8
    ∗ slots .maj c ∗ slots .min c ∗ slots .sh c)

/-- One fact per channel. -/
abbrev PerCh (Φ : Ch → sProp 𝕄) : sProp 𝕄 := bigSepL chans Φ
/-- The same written out, in the order of the channels. -/
theorem perCh (Φ : Ch → sProp 𝕄) : PerCh Φ = iprop(Φ .majT0 ∗ Φ .minT0 ∗ Φ .shT0 ∗ Φ .majB0 ∗ Φ .minB0 ∗ Φ .shB0 ∗ Φ .majT1 ∗ Φ .shT1 ∗ Φ .minT1 ∗ Φ .majB1 ∗ Φ .shB1 ∗ Φ .minB1 ∗ Φ .minT2 ∗ Φ .shB2) := by
  simp only [PerCh, chans, bigSepL_cons_cons, bigSepL_singleton]; rfl

/-- The rights the device starts with: to signal its partners, to wait for them, to start every copy and to wait for
    every copy. -/
abbrev Rights (c : Dev nD) : sProp 𝕄 :=
  iprop(Sig .maj c ∗ Sig .min c ∗ Sig .sh c ∗ Meet c ∗ PerCh (fun i => Ready i c) ∗ PerCh (fun i => Await i c))

/-- At the end nothing will pay its semaphores any more. -/
abbrev Closed (c : Dev nD) : sProp 𝕄 :=
  iprop(Idle .bar c ∗ PerCh (fun i => Idle (.snd i) c) ∗ PerCh (fun i => Idle (.rcv i) c))

/-- At first no row of the rounded weights need be in place. -/
theorem wRows_none (c : Dev nD) : Any (F := F) c w8 ⊢ WRows m 0 c := by
  unfold Any WRows owns
  iintro ⟨%X, %f, -, H⟩
  iexists f
  isplitr
  · ipureintro; exact fun y hy => absurd hy (by omega)
  · simp only [Memref.view_whole, View.set_whole]; iexact H

/-- At first no tile need be in place. -/
theorem done_none (c : Dev nD) : Any (F := F) c outM ⊢ Done m 0 c := by
  unfold Any Done Tiles owns
  iintro ⟨%X, %f, -, H⟩
  iexists f
  isplitr
  · ipureintro; exact fun p hp => absurd hp List.not_mem_nil
  · simp only [Memref.view_whole, View.set_whole]; iexact H

/-- When all tiles are in place the result is whole. -/
theorem done_all (c : Dev nD) : (Done m 16 c : sProp 𝕄) ⊢ owns (c : Thread nD τ) outM fullShare (outFull m c) := by
  unfold Done Tiles owns
  iintro ⟨%f, %hf, H⟩
  iexists f
  isplitr
  · ipureintro
    exact funext fun y => hf (⟨(y 0).val / 512, by have := idx2_lt0 y; show _ < 8; omega⟩, ⟨(y 0).val % 512 / 256, by omega⟩)
      (allTiles_all c _ _) y rfl rfl
  · simp only [Memref.view_whole, View.set_whole]; iexact H

set_option maxHeartbeats 1000000 in
/-- From its block, its weights, its scales, its buffers and its rights, a device's program computes its result, and leaves
    everything else as it was, with nothing owed and every semaphore at zero. -/
theorem body (c : Dev nD) :
    iprop(Rules m K ∗ Scales m c ∗ Args m c ∗ Local c ∗ Bufs c ∗ Rights c ∗ Owes order c ∗ Any c outM)
      ⊢ run c (onBuffers (cc0_body (F := F))) fun _ =>
          iprop(Scales m c ∗ Args m c ∗ Local c ∗ Bufs c ∗ Owes [] c ∗ owns (c : Thread nD τ) outM fullShare (outFull m c) ∗ Closed c) := by
  rw [cc0_body_eq_skeleton]; unfold cc0_body_skel run onBuffers; beta_reduce
  unfold Rights
  rw [perCh, perCh]
  iintro ⟨#HR, Hs, ⟨HXl, HXr, HWl, HWr⟩, ⟨Hq0, Hq1, Hq2, Hq3⟩, ⟨Hx0, Hx1, Hw0, Hw1, H8a, H8b, HW8, HDm, HDn, HDs⟩,
    ⟨HSm, HSn, HSs, HM, ⟨R_majT0, R_minT0, R_shT0, R_majB0, R_minB0, R_shB0, R_majT1, R_shT1, R_minT1, R_majB1, R_shB1, R_minB1, R_minT2, R_shB2⟩, ⟨A_majT0, A_minT0, A_shT0, A_majB0, A_minB0, A_shB0, A_majT1, A_shT1, A_minT1, A_majB1, A_shB1, A_minB1, A_minT2, A_shB2⟩⟩, HO, HT⟩
  ihave HW8 := (wRows_none m c) $$ HW8
  ihave HT := (done_none m c) $$ HT
  rw [wp_bind]
  iapply (part1 m c) $$ [$Hs]
  iintro %v2 %v8 %v11 %v17 %v23 %v30 Hs
  rw [wp_bind]
  iapply (part2 K m c v17 v23) $$ [$HR $HXl $HXr $HWl $Hx0 $Hx1 $Hw0 $H8a $Hq0 $Hq1 $Hq2 $HSm $HDm $HO]
  iintro %v58 %w ⟨HXl, HCx, HCw, Hx0, H8a, Hq0, HO⟩
  rw [wp_bind]
  iapply (part3 K m c v17 v23 v30 v58 w) $$ [$HR $HSn $HDn $HSs $HDs $HM $HO $R_majT0 $R_minT0 $H8a]
  iintro %v82 %w1 ⟨HO, Hbar, D_majB0, D_majT1, D_majB1, D_minB0, D_minT1, D_minB1, D_minT2, D_shT0, D_shB0, D_shT1, D_shB1, D_shB2, F_majT0, F_minT0, H8a3, H8a4⟩
  rw [wp_bind]
  iapply (part4 K m c v17 v82 w1) $$ [$HR $HO $R_shT0 $D_shT0 $H8a3 $HCx $H8b $R_majB0 $D_majB0]
  iintro ⟨HO, F_shT0, HXr, Hq1, F_majB0, H8b2, H8b3, H8b4, Hx1⟩
  rw [wp_bind]
  iapply (part5 K m c v23 v30) $$ [$HR $HO $R_minB0 $D_minB0 $R_shB0 $D_shB0 $H8b2 $H8b3 $HWr $Hw1 $Hq3 $HCw]
  iintro ⟨HO, F_minB0, F_shB0, HCw1, Hq2, Hw0, HWl⟩
  rw [wp_bind]
  iapply (part6 K m c) $$ [$HR $HO $HW8 $Hw0 $HWl $Hq2 $HCw1]
  iintro ⟨HO, HW8, HCw0, HCw1⟩
  rw [wp_bind]
  iapply (part7 K m c v8 v11) $$ [$HR $HO $HW8 $HCw0 $HCw1]
  iintro %v195 %v199 ⟨HO, HW8, HWl, HWr, Hw0, Hw1, Hq2, Hq3⟩
  rw [wp_bind]
  iapply (part8 c v8 v11 v199)
  iintro %r
  obtain ⟨v202, v209, v215, v222, v229, v232, v233, v11'⟩ := r
  rw [wp_bind]
  iapply (part9 K m c v17 v23 v30 v232 v233 v11') $$ [$HR $HO $A_minT0 $R_majT1 $D_majT1]
  iintro %v235 ⟨HO, I_minT0, F_majT1, Ha2, Ha3⟩
  rw [wp_bind]
  iapply (part10 K m c v2 _ v17 v23) $$ [$HR $HO $R_shT1 $D_shT1 $Ha2 $A_majT0 $R_minT1 $D_minT1 $H8a4 $HW8]
  iintro %v287 %X %z ⟨%hX, HO, F_shT1, I_majT0, F_minT1, Hna, H8a4, HW8⟩
  rw [wp_bind]
  iapply (part11 K m c v2 _ v17 v23 v287 X z rfl hX) $$ [$HR $HO $HT $H8b4 $HW8 $A_minB0]
  iintro ⟨HO, HT, H8b4, HW8, I_minB0, Hb⟩
  rw [wp_bind]
  iapply (part12 K m c v17 v23 v30) $$ [$HR $HO $Hb $R_majB1 $D_majB1 $R_shB1 $D_shB1 $A_majB0]
  iintro ⟨HO, F_majB1, F_shB1, Hb3, I_majB0, Hnb⟩
  rw [wp_bind]
  iapply (part13 K m c _ v30 v195 rfl) $$ [$HR $HO $Hnb $R_minB1 $D_minB1 $A_shT0 $Ha3 $Hna $HW8 $HT]
  iintro ⟨HO, F_minB1, Hnb, I_shT0, Hsa, Ha3, Hna, HW8, HT⟩
  rw [wp_bind]
  iapply (part14 K m c _ v17 v215 v229 rfl) $$ [$HR $HO $HT $HW8 $Hsa $A_majT1]
  iintro ⟨HO, HT, HW8, Hsa, I_majT1, Hna1⟩
  rw [wp_bind]
  iapply (part15 K m c _ v23 v30 v195 rfl) $$ [$HR $HO $Hna1 $R_minT2 $D_minT2 $A_shB0 $Hb3 $HW8 $HT $Hnb]
  iintro ⟨HO, F_minT2, Hna1, I_shB0, Hsb, Hb3, HW8, HT, Hnb⟩
  rw [wp_bind]
  iapply (part16 m c _ v215 v222 v229 rfl) $$ [$HT $HW8 $Hsb $Hna1]
  iintro %v461 ⟨HT, HW8, Hsb, Hna1⟩
  rw [wp_bind]
  iapply (part17 K m c v23 v30 v461) $$ [$HR $HO $HT $A_minB1 $R_shB2 $D_shB2 $A_minT1]
  iintro ⟨HO, HT, I_minB1, F_shB2, Hb1, I_minT1, Ha1⟩
  rw [wp_bind]
  iapply (part18 K m c _ v30 v202 v235 rfl) $$ [$HR $HO $A_shT1 $Ha1 $HW8 $HT]
  iintro ⟨HO, I_shT1, Ha1, Hsa1, HW8, HT⟩
  rw [wp_bind]
  iapply (part19 K m c _ v17 v30 v202 rfl) $$ [$HR $HO $HT $A_majB1 $A_shB1 $Hb1 $HW8]
  iintro %v545 ⟨HO, HT, I_majB1, Hnb1, I_shB1, Hsb1, Hb1, HW8⟩
  rw [wp_bind]
  iapply (part20 m c _ v23 v222 v235 v545 rfl) $$ [$HT $Hnb1 $Hsb1 $HW8]
  iintro ⟨HT, Hnb1, Hsb1, HW8⟩
  rw [wp_bind]
  iapply (part21 K m c _ v30 v209 rfl) $$ [$HR $HO $A_minT2 $A_shB2 $HT $HW8]
  iintro ⟨HO, I_minT2, I_shB2, Hah, Hsh, HT, HW8⟩
  rw [wp_bind]
  iapply (part22 K m c) $$ [$HR $HO $F_majT0 $F_majB0 $F_minT0]
  iintro ⟨HO, J_majT0, H8a1, J_majB0, H8b1, J_minT0, H8a2⟩
  rw [wp_bind]
  iapply (part23 K m c) $$ [$HR $HO $F_minB0 $F_shT0 $F_shB0 $F_majT1]
  iintro ⟨HO, J_minB0, H8b2, J_shT0, H8a3, J_shB0, H8b3, J_majT1, Ha1'⟩
  rw [wp_bind]
  iapply (part24 K m c) $$ [$HR $HO $F_majB1 $F_minT1 $F_minB1 $F_shT1]
  iintro ⟨HO, J_majB1, Hb1', J_minT1, Hna', J_minB1, Hnb', J_shT1, Ha2⟩
  icases HR with ⟨#HI, #HL⟩
  simp only [Prog.lift, Prog.bind_op, Prog.bind_ret, Prog.pure_eq_ret]
  iapply (wp_back m K .shB1 c (congrArg (fun d => half m 1 (nb .min d)) (nb_nb .sh c).symm) (src_credit .shB1)) $$ [$HI $HL $F_shB1 $HO]
  iintro ⟨HO, J_shB1, Hb2⟩
  iapply (wp_back m K .minT2 c (congrArg (fun d => half m 0 (nb .min (nb .maj d))) (nb_nb .min c).symm) (src_credit .minT2)) $$ [$HI $HL $F_minT2 $HO]
  iintro ⟨HO, J_minT2, Hna1'⟩
  iapply (wp_back m K .shB2 c (congrArg (fun d => half m 1 (nb .maj (nb .min d))) (nb_nb .sh c).symm) (src_credit .shB2)) $$ [$HI $HL $F_shB2 $HO]
  iintro ⟨HO, J_shB2, Hb1''⟩
  rw [wp_ret]
  imodintro
  ihave HT := (done_all m c) $$ HT
  ihave H8a := (shares4 c (slot0 x8) fullShare _).2 $$ [$H8a1 $H8a2 $H8a3 $H8a4]
  ihave H8b := (shares4 c (slot1 x8) fullShare _).2 $$ [$H8b1 $H8b2 $H8b3 $H8b4]
  ihave Ha := (shares3 c (slot0 majA) fullShare _).2 $$ [$Ha1' $Ha2 $Ha3]
  ihave Hb := (shares3 c (slot0 majB) fullShare _).2 $$ [$Hb1' $Hb2 $Hb3]
  ihave Hna := (shares2 c (slot0 minA) fullShare _).2 $$ [$Hna' $Hna]
  ihave Hnb := (shares2 c (slot0 minB) fullShare _).2 $$ [$Hnb' $Hnb]
  ihave Hna1 := (shares2 c (slot1 minA) fullShare _).2 $$ [$Hna1' $Hna1]
  ihave Hb1 := (shares2 c (slot1 majB) fullShare _).2 $$ [$Hb1'' $Hb1]
  isplitl [Hs]; · iexact Hs
  isplitl [HXl HXr HWl HWr]; · unfold Args; iframe
  isplitl [Hq0 Hq1 Hq2 Hq3]; · unfold Local; iframe
  isplitl [Hx0 Hx1 Hw0 Hw1 H8a H8b HW8 Ha Hb Hna Hnb Hsa Hsb Ha1 Hna1 Hsa1 Hb1 Hnb1 Hsb1 Hah Hsh]
  · isplitl [Hx0]; · iexact Hx0
    isplitl [Hx1]; · iexact Hx1
    isplitl [Hw0]; · iexact Hw0
    isplitl [Hw1]; · iexact Hw1
    isplitl [H8a]; · iexists _; iexact H8a
    isplitl [H8b]; · iexists _; iexact H8b
    isplitl [HW8]; · iexists _; iexact HW8
    rw [slots_maj, slots_min, slots_sh]
    unfold slot
    isplitl [Hna Hnb Hna1 Hnb1]
    · isplitl [Hna]; · iexists _; iexact Hna
      isplitl [Hnb]; · iexists _; iexact Hnb
      isplitl [Hna1]; · iexists _; iexact Hna1
      iexists _; iexact Hnb1
    isplitl [Ha Hb Ha1 Hb1 Hah]
    · isplitl [Ha]; · iexists _; iexact Ha
      isplitl [Hb]; · iexists _; iexact Hb
      isplitl [Ha1]; · iexists _; iexact Ha1
      isplitl [Hb1]; · iexists _; iexact Hb1
      iexists _; iexact Hah
    · isplitl [Hsa]; · iexists _; iexact Hsa
      isplitl [Hsb]; · iexists _; iexact Hsb
      isplitl [Hsa1]; · iexists _; iexact Hsa1
      isplitl [Hsb1]; · iexists _; iexact Hsb1
      iexists _; iexact Hsh
  isplitl [HO]; · iexact HO
  isplitl [HT]; · iexact HT
  unfold Closed
  rw [perCh, perCh]
  iframe

end Cert.Proof.Ring
end
-- ==== Proof.Buffers.lean ====
/-
The kernel's scratch buffers, whole, as the slots and halves that its program works with, and back.
-/
module

public import proofs.«01_k».proof.Proof.Body

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ UU ℕ

variable (m : (ℓ : Loc nD τ sig) → Buf (Elt F) ℓ)

/-- A buffer of which a part is owned at whatever it holds. -/
theorem any_pts {cs : Space} {s : Shape} {e : EltTy} (c : Dev nD) (M : Memref sig .tc cs s e) :
    (Any c M : sProp 𝕄) ⊣⊢ iprop(∃ f : Buf (Elt F) (M.view.loc (c : Thread nD τ)), M.view.loc (c : Thread nD τ) ↦[M.view.set]{fullShare} f) := by
  unfold Any owns
  constructor
  · iintro ⟨%X, %f, -, H⟩
    iexists f; iexact H
  · iintro ⟨%f, H⟩
    iexists _, f
    isplitr; · ipureintro; rfl
    iexact H

/-- A whole buffer. -/
theorem any_whole (c : Dev nD) (b : Ref sig .tc) :
    iprop(∃ f : Buf (Elt F) ((c : Thread nD τ).loc b), (c : Thread nD τ).loc b ↦{fullShare} f) ⊣⊢ (Any c (Memref.whole b) : sProp 𝕄) := by
  have h := any_pts (F := F) c (Memref.whole b)
  simp only [Memref.view_whole, View.set_whole] at h
  exact ⟨h.2, h.1⟩

/-- A memref without its unit axes. -/
theorem any_squeeze {cs : Space} {s s' : Shape} {e : EltTy} (c : Dev nD) (M : Memref sig .tc cs s e) (h : s.Squeezes s') :
    (Any c M : sProp 𝕄) ⊣⊢ Any c (M.squeeze s' h) := by
  have e : (M.squeeze s' h).view.set = M.view.set := View.set_reshape _ _
  have h' := any_pts (F := F) c (M.squeeze s' h)
  rw [e] at h'
  exact ⟨(any_pts c M).1.trans h'.2, h'.1.trans (any_pts c M).2⟩

/-- A memref cut in two. -/
theorem any_cut {cs : Space} {s : Shape} {e : EltTy} (c : Dev nD) (M : Memref sig .tc cs s e) (r r' : Rect s)
    (h : ∀ a, r.stride a = 1) (h' : ∀ a, r'.stride a = 1) (hd : Disjoint r.set r'.set) (hc : r.set ∪ r'.set = Finset.univ) :
    (Any c M : sProp 𝕄) ⊣⊢ iprop(Any c (M.slice r h) ∗ Any c (M.slice r' h')) := by
  have e : M.view.set = (M.view.slice r).set ∪ (M.view.slice r').set := by
    rw [View.set_slice, View.set_slice, ← Finset.map_union, hc]; rfl
  have d : Disjoint (M.view.slice r).set (M.view.slice r').set := by
    rw [View.set_slice, View.set_slice]; exact (Finset.disjoint_map _).mpr hd
  have p := any_pts (F := F) c M
  have q := any_pts (F := F) c (M.slice r h)
  have q' := any_pts (F := F) c (M.slice r' h')
  rw [e] at p
  constructor
  · iintro H
    ihave H := p.1 $$ H
    icases H with ⟨%f, H⟩
    ihave H := (pointsTo_union d).1 $$ H
    icases H with ⟨H, H'⟩
    isplitl [H]
    · iapply q.2; iexists f; iexact H
    · iapply q'.2; iexists f; iexact H'
  · iintro ⟨H, H'⟩
    ihave H := q.1 $$ H
    ihave H' := q'.1 $$ H'
    icases H with ⟨%f, H⟩
    icases H' with ⟨%g, H'⟩
    iapply p.2
    iexists _
    iapply (pointsTo_join d)
    isplitl [H]
    · iexact H
    · iexact H'

/-- Two rectangles that lie one after the other along the first axis, and are whole along the others, make up all. -/
theorem cut_first {n : ℕ} {z : Fin n → ℕ} {a b : ℕ} {o o' w w' : Fin (n + 1) → ℕ}
    {h : ∀ i, o i + w i ≤ (Fin.cons (a + b) z : Fin (n + 1) → ℕ) i} {h' : ∀ i, o' i + w' i ≤ (Fin.cons (a + b) z : Fin (n + 1) → ℕ) i}
    (ho : o = fun _ => 0) (hw : w = Fin.cons a z) (ho' : o' = Fin.cons a fun _ => 0) (hw' : w' = Fin.cons b z) :
    Disjoint (Rect.unit (s := ⟨n + 1, Fin.cons (a + b) z⟩) o w h).set (Rect.unit (s := ⟨n + 1, Fin.cons (a + b) z⟩) o' w' h').set
      ∧ (Rect.unit (s := ⟨n + 1, Fin.cons (a + b) z⟩) o w h).set ∪ (Rect.unit (s := ⟨n + 1, Fin.cons (a + b) z⟩) o' w' h').set = Finset.univ := by
  subst ho hw ho' hw'
  refine ⟨Rect.unit_disjoint 0 (Or.inl ?_), Finset.eq_univ_iff_forall.mpr fun y => ?_⟩
  · show 0 + a ≤ a; omega
  · rw [Finset.mem_union, Rect.mem_set_unit, Rect.mem_set_unit]
    have h0 : (y 0).val < a + b := (y 0).isLt
    have ht (i : Fin n) : (y i.succ).val < z i := (y i.succ).isLt
    by_cases hy : (y 0).val < a
    · refine Or.inl (Fin.cases ⟨Nat.zero_le _, ?_⟩ fun i => ⟨Nat.zero_le _, ?_⟩)
      · show (y 0).val < 0 + a; omega
      · show (y i.succ).val < 0 + z i; have := ht i; omega
    · refine Or.inr (Fin.cases ⟨?_, ?_⟩ fun i => ⟨Nat.zero_le _, ?_⟩)
      · show a ≤ (y 0).val; omega
      · show (y 0).val < a + b; omega
      · show (y i.succ).val < 0 + z i; have := ht i; omega

/-- The two slots of a buffer. -/
theorem two_slots (c : Dev nD) (M : Memref sig .tc .vmem S2x256x4096 .fp8e4m3) :
    (Any (F := F) c M : sProp 𝕄) ⊣⊢ iprop(Any c (slot0 M) ∗ Any c (slot1 M)) := by
  have hs := cut_first (n := 2) (z := ![256, 4096]) (a := 1) (b := 1) (o := ![0, 0, 0]) (w := S1x256x4096.size)
    (o' := ![1, 0, 0]) (w' := S1x256x4096.size)
    (h := inb_S2x256x4096_S1x256x4096_0_0_0) (h' := inb_S2x256x4096_S1x256x4096_1_0_0) (by decide) (by decide) (by decide) (by decide)
  have k := any_cut (F := F) c M _ _ (fun _ => rfl) (fun _ => rfl) hs.1 hs.2
  exact ⟨k.1.trans (BI.sep_mono (any_squeeze c _ _).1 (any_squeeze c _ _).1), (BI.sep_mono (any_squeeze c _ _).2 (any_squeeze c _ _).2).trans k.2⟩

/-- The two places for pieces of the weights' columns. -/
theorem two_pieces (c : Dev nD) : (Any (F := F) c w32 : sProp 𝕄) ⊣⊢ iprop(Any c wIn0 ∗ Any c wIn1) := by
  have hs := cut_first (n := 2) (z := ![1024, 1024]) (a := 1) (b := 1) (o := ![0, 0, 0]) (w := S1x1024x1024.size)
    (o' := ![1, 0, 0]) (w' := S1x1024x1024.size)
    (h := inb_S2x1024x1024_S1x1024x1024_0_0_0) (h' := inb_S2x1024x1024_S1x1024x1024_1_0_0) (by decide) (by decide) (by decide) (by decide)
  have k := any_cut (F := F) c w32 _ _ (fun _ => rfl) (fun _ => rfl) hs.1 hs.2
  exact ⟨k.1.trans (BI.sep_mono (any_squeeze c _ _).1 (any_squeeze c _ _).1), (BI.sep_mono (any_squeeze c _ _).2 (any_squeeze c _ _).2).trans k.2⟩

/-- The two halves of the loaded block. -/
theorem two_halves (c : Dev nD) : (Any (F := F) c x32 : sProp 𝕄) ⊣⊢ iprop(Any c xIn0 ∗ Any c xIn1) := by
  have hs := cut_first (n := 1) (z := ![4096]) (a := 256) (b := 256) (o := ![0, 0]) (w := S256x4096.size)
    (o' := ![256, 0]) (w' := S256x4096.size)
    (h := inb_S512x4096_S256x4096_0_0) (h' := inb_S512x4096_S256x4096_256_0) (by decide) (by decide) (by decide) (by decide)
  exact any_cut (F := F) c x32 _ _ (fun _ => rfl) (fun _ => rfl) hs.1 hs.2

/-- A scratch buffer of the kernel, whole, at whatever it holds. -/
abbrev Scratch (c : Dev nD) (b : Ref sig .tc) : sProp 𝕄 :=
  iprop(∃ f : Buf (Elt F) ((c : Thread nD τ).loc b), (c : Thread nD τ).loc b ↦{fullShare} f)

/-- All of them. -/
abbrev AllScratch (c : Dev nD) : sProp 𝕄 :=
  iprop(Scratch c cc0_scratch0 ∗ Scratch c cc0_scratch1 ∗ Scratch c cc0_scratch2 ∗ Scratch c cc0_scratch3 ∗ Scratch c cc0_scratch4 ∗ Scratch c cc0_scratch5 ∗ Scratch c cc0_scratch6 ∗ Scratch c cc0_scratch7 ∗ Scratch c cc0_scratch8 ∗ Scratch c cc0_scratch9 ∗ Scratch c cc0_scratch10 ∗ Scratch c cc0_scratch11)

/-- The scratch buffers are what the program works with, -/
theorem bufs_intro (c : Dev nD) : (AllScratch (F := F) c : sProp 𝕄) ⊢ Bufs c := by
  unfold AllScratch Bufs
  rw [slots_maj, slots_min, slots_sh]
  iintro ⟨H0, H1, H2, H3, H4, H5, H6, H7, H8, H9, H10, H11⟩
  ihave H0 := (any_whole (F := F) c cc0_scratch0).1 $$ H0
  ihave H1 := (any_whole (F := F) c cc0_scratch1).1 $$ H1
  ihave H2 := (any_whole (F := F) c cc0_scratch2).1 $$ H2
  ihave H3 := (any_whole (F := F) c cc0_scratch3).1 $$ H3
  ihave H4 := (any_whole (F := F) c cc0_scratch4).1 $$ H4
  ihave H5 := (any_whole (F := F) c cc0_scratch5).1 $$ H5
  ihave H6 := (any_whole (F := F) c cc0_scratch6).1 $$ H6
  ihave H7 := (any_whole (F := F) c cc0_scratch7).1 $$ H7
  ihave H8 := (any_whole (F := F) c cc0_scratch8).1 $$ H8
  ihave H9 := (any_whole (F := F) c cc0_scratch9).1 $$ H9
  ihave H10 := (any_whole (F := F) c cc0_scratch10).1 $$ H10
  ihave H11 := (any_whole (F := F) c cc0_scratch11).1 $$ H11
  ihave H0 := (two_halves c).1 $$ H0
  icases H0 with ⟨A0, B0⟩
  ihave H3 := (two_pieces c).1 $$ H3
  icases H3 with ⟨A3, B3⟩
  ihave H1 := (two_slots c x8).1 $$ H1
  icases H1 with ⟨A1, B1⟩
  ihave H4 := (two_slots c majA).1 $$ H4
  icases H4 with ⟨A4, B4⟩
  ihave H5 := (two_slots c majB).1 $$ H5
  icases H5 with ⟨A5, B5⟩
  ihave H6 := (two_slots c minA).1 $$ H6
  icases H6 with ⟨A6, B6⟩
  ihave H7 := (two_slots c minB).1 $$ H7
  icases H7 with ⟨A7, B7⟩
  ihave H8 := (two_slots c shA).1 $$ H8
  icases H8 with ⟨A8, B8⟩
  ihave H9 := (two_slots c shB).1 $$ H9
  icases H9 with ⟨A9, B9⟩
  unfold slot
  iframe

/-- and what the program works with is the scratch buffers. -/
theorem bufs_elim (c : Dev nD) : (Bufs (F := F) c : sProp 𝕄) ⊢ AllScratch c := by
  unfold AllScratch Bufs
  rw [slots_maj, slots_min, slots_sh]
  unfold slot
  iintro ⟨A0, B0, A3, B3, A1, B1, H2, ⟨A6, A7, B6, B7⟩, ⟨A4, A5, B4, B5, H10⟩, ⟨A8, A9, B8, B9, H11⟩⟩
  ihave H0 := (two_halves c).2 $$ [$A0 $B0]
  ihave H3 := (two_pieces c).2 $$ [$A3 $B3]
  ihave H1 := (two_slots c x8).2 $$ [$A1 $B1]
  ihave H4 := (two_slots c majA).2 $$ [$A4 $B4]
  ihave H5 := (two_slots c majB).2 $$ [$A5 $B5]
  ihave H6 := (two_slots c minA).2 $$ [$A6 $B6]
  ihave H7 := (two_slots c minB).2 $$ [$A7 $B7]
  ihave H8 := (two_slots c shA).2 $$ [$A8 $B8]
  ihave H9 := (two_slots c shB).2 $$ [$A9 $B9]
  ihave H0 := (any_whole (F := F) c cc0_scratch0).2 $$ H0
  ihave H1 := (any_whole (F := F) c cc0_scratch1).2 $$ H1
  ihave H2 := (any_whole (F := F) c cc0_scratch2).2 $$ H2
  ihave H3 := (any_whole (F := F) c cc0_scratch3).2 $$ H3
  ihave H4 := (any_whole (F := F) c cc0_scratch4).2 $$ H4
  ihave H5 := (any_whole (F := F) c cc0_scratch5).2 $$ H5
  ihave H6 := (any_whole (F := F) c cc0_scratch6).2 $$ H6
  ihave H7 := (any_whole (F := F) c cc0_scratch7).2 $$ H7
  ihave H8 := (any_whole (F := F) c cc0_scratch8).2 $$ H8
  ihave H9 := (any_whole (F := F) c cc0_scratch9).2 $$ H9
  ihave H10 := (any_whole (F := F) c cc0_scratch10).2 $$ H10
  ihave H11 := (any_whole (F := F) c cc0_scratch11).2 $$ H11
  iframe

end Cert.Proof.Ring
end
-- ==== Proof.Deal.lean ====
/-
What the devices are dealt at launch: the cells' invariants, each device's rights, and the credit for what will come.
-/
module

public import proofs.«01_k».proof.Proof.Buffers
public import proofs.«01_k».proof.Proof.Gen.KernelIdeal.Launch
public import proofs.«01_k».proof.Proof.Gen.KernelIdeal.Points
public import Idealize.ShloMosaic.Lib.Pipeline.CollectiveSegs
public import Idealize.ShloMosaic.Lib.Pipeline.BigSepL

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ UU ℕ

variable (m : (ℓ : Loc nD τ sig) → Buf (Elt F) ℓ)

/-! ## Enumerations -/

/-- One fact per cell: the barrier's, then those of the channels. -/
theorem per_cell (Φ : Cell → sProp 𝕄) :
    bigSep Finset.univ Φ = iprop(Φ .bar ∗ PerCh (fun k => Φ (.snd k)) ∗ PerCh (fun k => Φ (.rcv k))) := by
  rw [bigSep_univ_eq_bigSepL cellsL (by decide) (by decide)]
  show bigSepL (.bar :: .snd .majT0 :: _) Φ = _
  rw [bigSepL_cons_cons]
  show iprop(Φ .bar ∗ bigSepL (chans.map .snd ++ chans.map .rcv) Φ) = _
  rw [bigSepL_append, bigSepL_map, bigSepL_map]

/-- One fact per channel, as a set's. -/
theorem per_chan (Φ : Ch → sProp 𝕄) : PerCh Φ = bigSep Finset.univ Φ :=
  (bigSep_univ_eq_bigSepL chans (by decide) (by decide) Φ).symm

/-- Two facts per channel. -/
theorem perCh_sep (Φ Ψ : Ch → sProp 𝕄) : PerCh (fun k => iprop(Φ k ∗ Ψ k)) = iprop(PerCh Φ ∗ PerCh Ψ) := by
  rw [per_chan, per_chan, per_chan, bigSep_sep']

/-- One fact per side. -/
theorem per_side (Φ : Side → sProp 𝕄) : bigSep Finset.univ Φ = iprop(Φ .maj ∗ Φ .min ∗ Φ .sh) := by
  rw [bigSep_univ_eq_bigSepL [Side.maj, .min, .sh] (by decide) (by decide), bigSepL_cons_cons, bigSepL_cons_cons, bigSepL_singleton]; rfl

/-! ## The kernel's own semaphores -/

/-- The semaphores of the kernel's scratch: four for copies within the device, two for each channel. -/
inductive Own | loc (i : Fin 4) | snd (k : Ch) | rcv (k : Ch)
deriving DecidableEq

/-- They in a list. -/
abbrev ownL : List Own := [.loc 0, .loc 1, .loc 2, .loc 3] ++ (chans.map .snd ++ chans.map .rcv)

instance : Fintype Own :=
  ⟨⟨ownL, by decide⟩, fun x => by rcases x with i | k | k <;> first | (fin_cases i <;> decide) | (cases k <;> decide)⟩

/-- Which semaphore each is. -/
abbrev osem : Own → SemLoc sig
  | .loc 0 => .dma xSem0
  | .loc 1 => .dma xSem1
  | .loc 2 => .dma wSem0
  | .loc 3 => .dma wSem1
  | .snd k => csem (.snd k)
  | .rcv k => csem (.rcv k)

/-- They are the kernel's own semaphores: scoped, all different, and none of a window's. -/
theorem ownSemFacts : Pipeline.OwnSemFacts cfg0.spec osem := by decide +kernel

/-- The kernel's own semaphores at zero; -/
theorem ownSems0_eq (c : Dev nD) : (Pipeline.ownSems0 (Ix := Unit) (Name := ℕ) (U := UU) (Lvl := ℕ) (Val := Elt F) (τ := τ) osem c : sProp 𝕄)
    = iprop(Local c ∗ PerCh (fun k => semVal (kcell (c, .snd k)) 0) ∗ PerCh (fun k => semVal (kcell (c, .rcv k)) 0)) := by
  rw [Pipeline.ownSems0_eq_of_list c osem ownL (by decide) (by decide), bigSepL_append, bigSepL_append, bigSepL_map, bigSepL_map,
    bigSepL_cons_cons, bigSepL_cons_cons, bigSepL_cons_cons, bigSepL_singleton]
  rfl
/-- the launch's own, the barrier. -/
theorem unscopedSems0_eq (c : Dev nD) : (unscopedSems0 c : sProp 𝕄) = semVal (kcell (c, .bar)) 0 := by
  unfold unscopedSems0; rw [bigSep_eq_bigSepL_of_eq [SemLoc.reg barS] (by decide) (by decide)]; rfl

/-! ## What is minted -/

/-- All cells of all devices. -/
def ringCells : Finset (GSem nD τ sig) := Finset.univ.map ⟨kcell, kcell_injective⟩

/-- A token for every cell and side. -/
def tokOf (p : Dev nD × Cell × Side) : GSem nD τ sig × ℕ × Side := (kcell (p.1, p.2.1), 0, p.2.2)
/-- Tokens of different duties are different. -/
theorem tokOf_injective : Function.Injective tokOf := by
  rintro ⟨c, x, s⟩ ⟨c', x', s'⟩ h
  have h1 := kcell_injective (congrArg (fun q => q.1) h)
  have h2 : s = s' := congrArg (fun q => q.2.2) h
  exact Prod.ext (congrArg (fun q => q.1) h1) (Prod.ext (congrArg (fun q => q.2) h1) h2)
def ringToks : Finset (GSem nD τ sig × ℕ × Side) := Finset.univ.map ⟨tokOf, tokOf_injective⟩

/-- The ghost element at launch: the windows' rounds, the cells' rounds, no counter. -/
def u₀ : UU :=
  (initOf (Pipeline.cells (nD := nD) (τ := τ) cfgs cellOf_inj) (Pipeline.launchToks cfgs cellOf_inj), (initOf ringCells ringToks, 1))

/-- The launch's ghost state is the windows' part and the cells' part. -/
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of a device's own cells. -/
abbrev toks (c : Dev nD) : sProp 𝕄 := bigSep Finset.univ fun p : Cell × Side => dutyTok ER (kcell (c, p.1)) 0 p.2

/-- What each device is given of it. -/
abbrev G (c : Dev nD) : sProp 𝕄 :=
  iprop((bigSep Finset.univ fun x : Cell => roundState ER (Rd m) (kcell (c, x)) 0)
    ∗ (bigSep Finset.univ fun x : Cell => iprop(atPos ER (kcell (c, x)) 0 ∅ 0 ∗ reached ER (kcell (c, x)) 0)) ∗ toks c)

/-- From the cells' part each device gets its own cells' state and their tokens. -/
theorem fund_ring : (BI.own (ER (initOf ringCells ringToks)) : sProp 𝕄) ⊢ |==> bigSep Finset.univ (G m) := by
  have hX (Φ : GSem nD τ sig → sProp 𝕄) : bigSep ringCells Φ = bigSep Finset.univ fun c : Dev nD => bigSep Finset.univ fun x : Cell => Φ (kcell (c, x)) := by
    unfold ringCells; rw [BI.bigSep_map, bigSep_univ_prod]; rfl
  have hT : bigSep ringToks (fun x => (dutyTok ER x.1 x.2.1 x.2.2 : sProp 𝕄)) = bigSep Finset.univ fun c : Dev nD => toks c := by
    unfold ringToks; rw [BI.bigSep_map, bigSep_univ_prod]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe

/-! ## What is made of it -/

/-- What a device goes on with: its positions, and the tokens of the payments that it makes. -/
abbrev Linear (c : Dev nD) : sProp 𝕄 :=
  iprop(Sig .maj c ∗ Sig .min c ∗ Sig .sh c ∗ atPos ER (kcell (c, .bar)) 0 ∅ 0 ∗ PerCh (fun k => Ready k c)
    ∗ PerCh (fun k => atPos ER (kcell (c, .rcv k)) 0 ∅ 0))

abbrev G' (c : Dev nD) : sProp 𝕄 := iprop(∃ K, invs m K ∗ Linear c ∗ Local c)

/-- The cells of a device become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x => iprop(∃ κ : ℕ, cellInv ER (Rd m) κ (kcell (c, x))))
          ∗ (bigSep Finset.univ fun x => iprop(atPos ER (kcell (c, x)) 0 ∅ 0 ∗ reached ER (kcell (c, x)) 0)) ∗ toks c ∗ Local c) := by
  rw [ownSems0_eq, unscopedSems0_eq]
  iintro ⟨⟨Hl, Hs, Hr⟩, Hb, Hst, Hat, Htok⟩
  imod (show iprop((bigSep Finset.univ fun x : Cell => semVal (kcell (c, x)) 0) ∗ bigSep Finset.univ fun x : Cell => roundState ER (Rd m) (kcell (c, x)) 0)
      ⊢ (|={Set.univ}=> bigSep Finset.univ fun x => iprop(∃ κ : ℕ, cellInv ER (Rd m) κ (kcell (c, x))) : sProp 𝕄) from by
        rw [← bigSep_sep']
        exact (bigSep_mono fun x _ => (Rounds.body_intro ER (Rd m) (kcell (c, x))).trans inv_alloc).trans (bigSep_fupd _ _)) $$ [Hb Hs Hr Hst] with Hinv
  · isplitr [Hst]
    · rw [per_cell]; iframe
    · iexact Hst
  imodintro
  iframe

/-- To whom a cell's token goes: the device that will pay it. -/
def payer (p : Cell × Side) : Dev nD ≃ Dev nD := match p.1 with
  | .bar => nbEquiv p.2
  | .snd _ => Equiv.refl _
  | .rcv k => nbEquiv (side k)

/-- The tokens, dealt to those who pay. -/
theorem toks_around :
    (bigSep Finset.univ fun c : Dev nD => (toks c : sProp 𝕄))
      = bigSep Finset.univ fun c : Dev nD => bigSep Finset.univ fun p : Cell × Side => dutyTok ER (kcell (payer p c, p.1)) 0 p.2 := by
  let e : Dev nD × Cell × Side ≃ Dev nD × Cell × Side :=
    ⟨fun q => (payer q.2 q.1, q.2), fun q => ((payer q.2).symm q.1, q.2), fun q => by simp, fun q => by simp⟩
  have h := bigSep_univ_equiv e fun q => (dutyTok ER (kcell (q.1, q.2.1)) 0 q.2.2 : sProp 𝕄)
  rw [bigSep_univ_prod, bigSep_univ_prod] at h
  exact h

/-- The tokens that a device pays with. -/
theorem toks_mine (c : Dev nD) :
    (bigSep Finset.univ fun p : Cell × Side => (dutyTok ER (kcell (payer p c, p.1)) 0 p.2 : sProp 𝕄))
      ⊢ iprop((Sig .maj c ∗ Sig .min c ∗ Sig .sh c) ∗ PerCh (fun k => dutyTok ER (kcell (c, .snd k)) 0 .maj)
          ∗ PerCh (fun k => dutyTok ER (kcell (nb (side k) c, .rcv k)) 0 .maj)) := by
  have one (Φ : Side → sProp 𝕄) : bigSep Finset.univ Φ ⊢ Φ .maj := bigSep_elim (Finset.mem_univ _)
  rw [bigSep_univ_prod, per_cell]
  refine BI.sep_mono (Entails.of_eq (per_side _)) (BI.sep_mono (bigSepL_mono fun k _ => one _) (bigSepL_mono fun k _ => one _))

/-- A fact that can be used again may be used at each place of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's share of what the cells leave. -/
theorem linear_intro (c : Dev nD) :
    iprop((bigSep Finset.univ fun x : Cell => (atPos ER (kcell (c, x)) 0 ∅ 0 : sProp 𝕄))
        ∗ (bigSep Finset.univ fun p : Cell × Side => dutyTok ER (kcell (payer p c, p.1)) 0 p.2))
      ⊢ Linear c := by
  have hR : (PerCh (fun k => Ready k c) : sProp 𝕄) = iprop(PerCh (fun k => dutyTok ER (kcell (c, .snd k)) 0 .maj)
      ∗ PerCh (fun k => dutyTok ER (kcell (nb (side k) c, .rcv k)) 0 .maj) ∗ PerCh (fun k => atPos ER (kcell (c, .snd k)) 0 ∅ 0)) := by
    unfold Ready; rw [perCh_sep, perCh_sep]
  rw [per_cell]
  unfold Linear
  rw [hR]
  iintro ⟨⟨Hb, Hs, Hr⟩, Ht⟩
  ihave Ht := (toks_mine c) $$ Ht
  icases Ht with ⟨⟨H1, H2, H3⟩, HS, HV⟩
  iframe

/-- Facts of all devices, dealt kind by kind. -/
theorem deal_three (A B C : Dev nD → sProp 𝕄) :
    (bigSep Finset.univ fun c => iprop((A c ∗ B c) ∗ C c)) = iprop((bigSep Finset.univ A ∗ bigSep Finset.univ B) ∗ bigSep Finset.univ C) := by
  rw [bigSep_sep', bigSep_sep']
/-- A family of four things is four families. -/
theorem deal_four (A B C D : Dev nD → sProp 𝕄) :
    (bigSep Finset.univ fun c => iprop(A c ∗ B c ∗ C c ∗ D c))
      = iprop(bigSep Finset.univ A ∗ bigSep Finset.univ B ∗ bigSep Finset.univ C ∗ bigSep Finset.univ D) := by
  rw [bigSep_sep', bigSep_sep', bigSep_sep']

/-- What all devices hold then, regrouped. -/
theorem regroup :
    (bigSep Finset.univ fun c : Dev nD => iprop((bigSep Finset.univ fun x => iprop(∃ κ : ℕ, cellInv ER (Rd m) κ (kcell (c, x))))
          ∗ (bigSep Finset.univ fun x => iprop(atPos ER (kcell (c, x)) 0 ∅ 0 ∗ reached ER (kcell (c, x)) 0)) ∗ toks c ∗ Local c) : sProp 𝕄)
      ⊢ bigSep Finset.univ (G' m) := by
  rw [deal_four, ← bigSep_univ_prod (fun ck : Dev nD × Cell => iprop(∃ κ : ℕ, cellInv ER (Rd m) κ (kcell ck))),
    bigSep_congr (s := Finset.univ) (fun (c : Dev nD) _ => bigSep_sep' Finset.univ (fun x : Cell => (atPos ER (kcell (c, x)) 0 ∅ 0 : sProp 𝕄)) (fun x => reached ER (kcell (c, x)) 0)),
    bigSep_sep', ← bigSep_univ_prod (fun ck : Dev nD × Cell => (reached ER (kcell ck) 0 : sProp 𝕄)), toks_around]
  iintro ⟨HI, ⟨Hat, #HR⟩, Htok, Hl⟩
  ihave HK := (BI.bigSep_exists_pi Finset.univ (fun (ck : Dev nD × Cell) (κ : ℕ) => (cellInv ER (Rd m) κ (kcell ck) : sProp 𝕄))) $$ HI
  icases HK with ⟨%K, #HI⟩
  iapply (bigSep_with_persistent (R := invs m K)
    (Φ := fun c => iprop(((bigSep Finset.univ fun x : Cell => (atPos ER (kcell (c, x)) 0 ∅ 0 : sProp 𝕄))
        ∗ (bigSep Finset.univ fun p : Cell × Side => dutyTok ER (kcell (payer p c, p.1)) 0 p.2)) ∗ Local c)) fun c _ => by
      iintro ⟨#H, HL, Hl⟩
      ihave HL := (linear_intro c) $$ HL
      iexists K
      isplitr; · iexact H
      isplitl [HL]; · iexact HL
      iexact Hl)
  isplitr
  · unfold invs; isplitl; · iexact HI
    iexact HR
  · iapply (Entails.of_eq (deal_three _ _ _).symm)
    isplitl [Hat Htok]
    · isplitl [Hat] <;> iassumption
    · iexact Hl

/-- The launch's one step for all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit for what will come -/

/-- All devices together owe a cell what the dues to such a cell are worth. -/
theorem owed_in_all (l : List Due) (c : Dev nD) (x : Cell) :
    ∑ d : Dev nD, dues l d (kcell (c, x)) () = (l.map fun y => if dueCell y = x then dueAmt y else 0).sum := by
  induction l with
  | nil => exact Finset.sum_eq_zero fun d _ => rfl
  | cons y l ih =>
    have e (d : Dev nD) : dues (y :: l) d (kcell (c, x)) ()
        = dues l d (kcell (c, x)) () + if d = nb (dueSide y) c then (if dueCell y = x then dueAmt y else 0) else 0 := by
      show (dues l d + tallyAt (dueAt y d) () (dueAmt y)) (kcell (c, x)) () = _
      rw [Pi.add_apply, Finsupp.add_apply, tallyAt_apply]
      congr 1
      by_cases h : d = nb (dueSide y) c
      · subst h
        rw [if_pos rfl, show dueAt y (nb (dueSide y) c) = kcell (c, dueCell y) by rw [dueAt, nb_nb]]
        by_cases h' : dueCell y = x
        · rw [if_pos h', if_pos ⟨by rw [h'], rfl⟩]
        · rw [if_neg h', if_neg fun e => h' (congrArg Prod.snd (kcell_injective e.1)).symm]
      · rw [if_neg h, if_neg fun e => h ?_]
        have e' : c = nb (dueSide y) d := congrArg Prod.fst (kcell_injective e.1)
        rw [e', nb_nb]
    rw [Finset.sum_congr rfl fun d _ => e d, Finset.sum_add_distrib, ih, Finset.sum_ite_eq' Finset.univ (nb (dueSide y) c), if_pos (Finset.mem_univ _),
      List.map_cons, List.sum_cons, Nat.add_comm]

/-- What a cell will get. -/
abbrev gets (x : Cell) : ℕ := (order.map fun y => if dueCell y = x then dueAmt y else 0).sum
/-- The barrier gets a unit from each partner, -/
theorem gets_bar : gets .bar = 3 := by simp [gets, order, chans, dueAmt]
/-- the cell of a channel's arrival the units of one copy. -/
theorem gets_rcv (k : Ch) : gets (.rcv k) = N := by cases k <;> simp [gets, order, chans]

/-- The launch's credit at a cell is what the cell will get. -/
theorem launch_cell (c : Dev nD) (x : Cell) :
    tallyOn (kcell (c, x)) (launchCredit (Pipeline.owing (dues order)) 0 (kcell (c, x))) = (tallyAt (kcell (c, x)) () (gets x) : CellTallies nD τ sig Unit) := by
  unfold tallyAt; refine congrArg _ (Finsupp.ext fun u => ?_); cases u
  rw [Pipeline.launchCredit_owing, Finsupp.single_eq_same, owed_in_all]

/-- A device's credit at launch: for its three partners' signals and for every copy that it will get. -/
theorem creds (c : Dev nD) :
    (Pipeline.launchCred (dues order) c : sProp 𝕄)
      ⊢ iprop(cred (tallyAt (kcell (c, .bar)) () 3) ∗ PerCh fun k => cred (tallyAt (kcell (c, .rcv k)) () N)) := by
  unfold Pipeline.launchCred
  rw [BI.bigSep_sdiff_split (Finset.subset_univ ((Finset.univ : Finset Cell).map ⟨csem, csem_injective⟩)), BI.bigSep_map]
  show iprop(bigSep Finset.univ (fun x : Cell => cred (tallyOn (kcell (c, x)) (launchCredit (Pipeline.owing (dues order)) 0 (kcell (c, x))))) ∗ _) ⊢ _
  iintro ⟨H, -⟩
  ihave H := (Entails.of_eq ((bigSep_congr fun x _ => congrArg cred (launch_cell c x)).trans
    (per_cell fun x => (cred (tallyAt (kcell (c, x)) () (gets x)) : sProp 𝕄)))) $$ H
  simp only [gets_bar, gets_rcv]
  icases H with ⟨Hb, -, Hr⟩
  iframe

end Cert.Proof.Ring
end
-- ==== Proof.Launch.lean ====
/-
The run of the whole program: the launch, every device's kernel, and what the final memory holds.
-/
module

public import proofs.«01_k».proof.Proof.Deal

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds Idealize.ShloMosaic.Transfers Idealize.ShloMosaic.ValueIdx

variable {F : FTy → Type} [FloatOps F]

local notation "𝕄" => MT nD τ sig Unit (Elt F) ℕ UU ℕ

variable (m : (ℓ : Loc nD τ sig) → Buf (Elt F) ℓ)

variable (ρ : Dev nD → PrngReg)

/-- The state at launch: zero counters. -/
abbrev s₀ : MemSt nD τ sig (Elt F) := ⟨m, fun _ => 0, ρ⟩

/-! ## What a device's kernel starts from and ends with -/

/-- Before: the rules, its arguments and local semaphores, its rights and its buffers. -/
def Φ₀ (c : Dev nD) : sProp 𝕄 := iprop(∃ K, Rules m K ∗ Args m c ∗ Local c ∗ Bufs c ∗ Rights c)
/-- After: its arguments, its buffers, and all its semaphores at zero. -/
def Φ₁ (c : Dev nD) : sProp 𝕄 := iprop(Args m c ∗ Local c ∗ Bufs c ∗ Closed c)

/-- The kernel's data: the two scales are staged, the result is written back. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => m ((c : Thread nD τ).loc main_arg2)
    | ⟨1, _⟩ => m ((c : Thread nD τ).loc main_arg3)
    | ⟨2, _⟩ => outFull m c
  Φ t := match t with
    | ⟨0, _⟩ => Φ₀ m c
    | ⟨_ + 1, _⟩ => Φ₁ m c
  q _ := fullShare
  owed t := match t with
    | ⟨0, _⟩ => dues order c
    | ⟨_ + 1, _⟩ => dues [] c

/-- A buffer at given contents. -/
abbrev stg (c : Dev nD) (b : Ref sig .tc) (X : b.ty.Contents (Elt F)) : sProp 𝕄 := owns (c : Thread nD τ) (Memref.whole b) fullShare X

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ m c ∗ (dats m ρ 0 c).owesAt () t0_0.succ
    ∗ stg c cc0_stg0_0 (m ((c : Thread nD τ).loc main_arg2)) ∗ stg c cc0_stg1_0 (m ((c : Thread nD τ).loc main_arg3))
    ∗ stg c cc0_stg2_0 (outFull m c))

/-- What is staged is each scale's array. -/
theorem before_0 (c : Dev nD) (d) : (dats m ρ 0 c).before (0 : Fin 3) t0_0 d = m ((c : Thread nD τ).loc main_arg2) := by
  unfold Dat.before; rw [if_pos (fetch0_0 t0_0)]
  funext i
  show m ((c : Thread nD τ).loc main_arg2) _ = _
  congr 1
  funext a; fin_cases a; exact Subsingleton.elim (α := Fin 1) _ _
/-- The same for the second scale. -/
theorem before_1 (c : Dev nD) (d) : (dats m ρ 0 c).before (1 : Fin 3) t0_0 d = m ((c : Thread nD τ).loc main_arg3) := by
  unfold Dat.before; rw [if_pos (fetch0_1 t0_0)]
  funext i
  show m ((c : Thread nD τ).loc main_arg3) _ = _
  congr 1
  funext a; fin_cases a; exact Subsingleton.elim (α := Fin 1) _ _

set_option maxRecDepth 30000 in
/-- Each device's kernel does what the data say. -/
theorem body_obligation (c : Dev nD) : BodyObligation (dats (F := F) m ρ 0 c) (defs₀ (F := F)) 𝒱₀ () Set.univ := fun t => by
  rw [fin_N0 t]
  rw [bigSep_W0, bigSep_W0]
  show bodyPre m ρ c ⊢ run c (onBuffers (cc0_body (F := F))) (fun _ => bodyPost m ρ c)
  unfold bodyPre Φ₀
  iintro ⟨⟨%K, #HR, HA, HL, HB, HG⟩, Ho, ⟨%d0, H0⟩, ⟨%d1, H1⟩, ⟨%d2, H2⟩⟩
  rw [before_0, before_1]
  unfold Dat.owesAt Pipeline.owesWithin
  icases Ho with ⟨%W, -, Ho⟩
  iapply wp_wand $$ [HA HL HB HG H0 H1 H2 Ho]
  · iapply (body K m c)
    isplitr; · iexact HR
    isplitl [H0 H1]
    · isplitl [H0]
      · iexact H0
      · iexact H1
    isplitl [HA]; · iexact HA
    isplitl [HL]; · iexact HL
    isplitl [HB]; · iexact HB
    isplitl [HG]; · iexact HG
    isplitl [Ho]
    · unfold Owes; iexists W; iexact Ho
    · unfold Any; iexists _; iexact H2
  iintro %r ⟨⟨H0, H1⟩, HA, HL, HB, Ho, H2, HC⟩
  unfold bodyPost Φ₁
  isplitl [HA HL HB HC]
  · isplitl [HA]; · iexact HA
    isplitl [HL]; · iexact HL
    isplitl [HB]; · iexact HB
    iexact HC
  isplitl [Ho]
  · unfold Owes
    icases Ho with ⟨%W', Ho⟩
    unfold Dat.owesAt Pipeline.owesWithin
    iexists W'
    isplitr; · ipureintro; exact fun _ _ => Or.inl trivial
    iexact Ho
  isplitl [H0]; · iexact H0
  isplitl [H1]; · iexact H1
  iexact H2

/-! ## The launch's conditions -/

/-- Every window's array is held whole. -/
theorem share_eq (c : Dev nD) (w : Fin cfg0.W) : (dats m ρ 0 c).share w = fullShare := by unfold Dat.share; split <;> rfl

/-- What a device starts from, but for its buffers. -/
abbrev start (c : Dev nD) : sProp 𝕄 := iprop(∃ K, Rules m K ∗ Args m c ∗ Local c ∗ Rights c)

/-- The two arguments in main memory, whole, are two shares of each. -/
theorem args_split (c : Dev nD) : iprop(HasX m c fullShare ∗ HasW m c fullShare) ⊢ Args m c := by
  have hx := (pointsTo_share (Ix := Unit) (Name := ℕ) (U := UU) (Lvl := ℕ) (ℓ := (c : Thread nD τ).loc main_arg0) (I := Finset.univ)
    (f := m ((c : Thread nD τ).loc main_arg0)) (PosShare.mem_left_op_right fullShare)).1
  have hw := (pointsTo_share (Ix := Unit) (Name := ℕ) (U := UU) (Lvl := ℕ) (ℓ := (c : Thread nD τ).loc main_arg1) (I := Finset.univ)
    (f := m ((c : Thread nD τ).loc main_arg1)) (PosShare.mem_left_op_right fullShare)).1
  iintro ⟨HX, HW⟩
  ihave HX := hx $$ HX
  ihave HW := hw $$ HW
  icases HX with ⟨HX, HX'⟩
  icases HW with ⟨HW, HW'⟩
  unfold Args
  iframe

/-- The launch gives a device what it starts from, -/
theorem start_intro (c : Dev nD) :
    iprop(Pipeline.unscopedRestP Pipeline.Prefetch.none cfg0.spec c (fun b => m ((c : Thread nD τ).loc b)) ∗ levAts L lv
        ∗ Pipeline.launchCred (dues order) c ∗ prngReg c (ρ c) ∗ G' m c)
      ⊢ |={Set.univ}=> iprop(start m c ∗ emp) := by
  rw [Pipeline.unscopedRestP_none, unscopedRest0_eq]
  iintro ⟨Hargs, Hlev, Hcr, -, %K, HI, ⟨HS1, HS2, HS3, HB, HRd, HAt⟩, HL⟩
  ihave Hc := (creds (F := F) c) $$ Hcr
  icases Hc with ⟨H3, HN⟩
  ihave Hargs := (args_split m c) $$ Hargs
  imodintro
  isplitl
  · iexists K
    isplitl [HI Hlev]
    · isplitl [HI]; · iexact HI
      iexact Hlev
    isplitl [Hargs]; · iexact Hargs
    isplitl [HL]; · iexact HL
    unfold Rights
    isplitl [HS1]; · iexact HS1
    isplitl [HS2]; · iexact HS2
    isplitl [HS3]; · iexact HS3
    isplitl [H3 HB]
    · unfold Meet
      isplitl [H3]; · iexact H3
      iexact HB
    isplitl [HRd]; · iexact HRd
    unfold Await
    rw [perCh_sep]
    isplitl [HN]; · iexact HN
    iexact HAt
  · iempintro

/-- which with its buffers is what its kernel needs. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨⟨%K, HR, HA, HL, HG⟩, -, Hb⟩
  ihave Hb := (bufs_intro (F := F) c) $$ Hb
  iexists K
  isplitl [HR]; · iexact HR
  isplitl [HA]; · iexact HA
  isplitl [HL]; · iexact HL
  isplitl [Hb]; · iexact Hb
  iexact HG

/-- What a device has at the end besides its windows: its arguments and the barrier at zero. -/
abbrev Ends (c : Dev nD) : sProp 𝕄 := iprop(Args m c ∗ unscopedSems0 c)

/-- What its kernel leaves gives back the semaphores and the buffers. -/
theorem phi1_exit (c : Dev nD) :
    (dats m ρ 0 c).Φ (Fin.last cfg0.N) ⊢ iprop(Ends m c ∗ Pipeline.ownSems0 osem c ∗ Pipeline.scopedRest cfg0.spec c) := by
  unfold Ends
  rw [show (dats m ρ 0 c).Φ (Fin.last cfg0.N) = Φ₁ m c from rfl, scopedRest0_eq, ownSems0_eq, unscopedSems0_eq]
  unfold Φ₁ Closed Idle
  iintro ⟨HA, HL, Hb, H0, HS, HV⟩
  ihave Hb := (bufs_elim (F := F) c) $$ Hb
  isplitl [HA H0]
  · isplitl [HA]; · iexact HA
    iexact H0
  isplitl [HL HS HV]
  · isplitl [HL]; · iexact HL
    isplitl [HS]; · iexact HS
    iexact HV
  iexact Hb

/-- The windows' own waits come before anything a device owes. -/
theorem waits (c : Dev nD) : (levAts L lv : sProp 𝕄) ⊢ Pipeline.cellsWaits cfgs (dats m ρ) () 0 c :=
  Pipeline.cellsWaits_intro cfgs (dats m ρ) () 0 c fun w s t => by
    have hs : role (.dma ((cfg0.win w).sem s)) = none := by
      revert w s; decide +kernel
    rcases t with ⟨_ | _, ht⟩
    · exact mayWait_dues c _ order (low_sem hs order)
    · exact mayWait_dues c _ [] (low_sem hs [])

/-- What the end says of a device's memory: its two arguments in main memory as they were, its barrier at zero. -/
def endQ (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1))
  ∧ ∀ sm : SemLoc sig, sm.isScoped .tc = false → s.sem ((c.tc : Thread nD τ), sm) = 0

/-- What a device ends with says what the final memory holds of it. -/
theorem ends_read (c : Dev nD) (s' : Phys nD τ sig (Elt F)) :
    iprop(Ends m c ∗ emp ∗ SI s') ⊢ (|={Set.univ}=> iprop(⌜endQ m c s'.mem⌝ ∗ SI s') : sProp 𝕄) := by
  unfold Ends Args
  iintro ⟨⟨⟨HX, -, HW, -⟩, Hu⟩, -, HSI⟩
  ihave %hx := (SI_pointsTo_agree) $$ [HSI HX]
  · isplitl [HSI] <;> iassumption
  ihave %hw := (SI_pointsTo_agree) $$ [HSI HW]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨⟨funext fun i => hx i (Finset.mem_univ _), funext fun i => hw i (Finset.mem_univ _)⟩, hs⟩
  · iexact HSI

/-! ## The run -/

/-- What the windows' arrays hold at the end. -/
def finalA (c : Dev nD) (w : Fin cfg0.W) : Buf (Elt F) ((cfg0.win w).arr.view.loc (c : Thread nD τ)) := (dats m ρ 0 c).arrAt w cfg0.N

/-- What the final memory holds. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)
    ∧ r.2.mem ((c : Thread nD τ).loc main_arg1) = m ((c : Thread nD τ).loc main_arg1)

set_option maxRecDepth 8000 in
/-- For any float values, from any memory with zero counters, every weakly fair execution of the program on the eight
    devices ends, with the windows' arrays at the computed contents, `x` and the weights as they were, and every
    semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := dues order) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := Ends m) (Z := fun _ => iprop(emp))
    (hX := start_intro m ρ) (hin := phi0_intro m ρ) (hout := phi1_exit m ρ)
    (QY := endQ m)
    (hY := ends_read m)
    (hQ := fun _ h hs => ⟨fun c => ⟨(h c).1, (h c).2.2.1⟩, sem_eq_zero hs fun c => (h c).2.2.2⟩)

/-- The two scales after the run are what they were, -/
theorem finalA_0 (c : Dev nD) : finalA m ρ c (0 : Fin 3) = m ((c : Thread nD τ).loc main_arg2) :=
  (dats (F := F) m ρ 0 c).arrAt_in (0 : Fin 3) rfl _
/-- both of them. -/
theorem finalA_1 (c : Dev nD) : finalA m ρ c (1 : Fin 3) = m ((c : Thread nD τ).loc main_arg3) :=
  (dats (F := F) m ρ 0 c).arrAt_in (1 : Fin 3) rfl _

end Cert.Proof.Ring
end
-- ==== Proof.Same.lean ====
module

public import proofs.«01_k».proof.Proof.Launch
public import proofs.«01_k».proof.Kernel
public import proofs.«01_k».proof.Proof.Gen.Kernel

@[expose] public section

noncomputable section

namespace Cert.Proof.Same

open Idealize.ShloMosaic Idealize.SL.Sem

/-! The printed kernel and its idealized form have the same text. So they are the same program over any float values, and
    what is proved of the run of one holds of the other. -/

variable {F : FTy → Type} [FloatOps F]

/-- The two kernel functions are one. -/
theorem body_eq : @Cert.Kernel.cc0_body F _ _ = @Cert.KernelIdeal.cc0_body F _ _ := rfl

/-- So are the tables that call them, -/
theorem defs₀_eq : @Cert.Kernel.defs₀ F _ _ = @Cert.KernelIdeal.defs₀ F _ _ := by
  unfold Cert.Kernel.defs₀ Cert.KernelIdeal.defs₀
  refine congrArg Defs.onTc ?_
  funext l a
  match l, a with
  | 0, (t, s) =>
    dsimp only
    rw [body_eq]
  | ⟨n + 1, h⟩, _ => exact absurd h (Nat.not_lt.2 (Nat.le_add_left _ _))

/-- and the tables with the pipelines added. -/
theorem defs_eq : @Cert.Kernel.defs F _ _ = @Cert.KernelIdeal.defs F _ _ := by
  unfold Cert.Kernel.defs Cert.KernelIdeal.defs
  rw [defs₀_eq]
  rfl

/-- The run of the idealized kernel, read as a run of the printed one. -/
theorem run_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => Ring.QC (F := F) m ρ r ∧ r.2.sem = fun _ => 0) := by
  rw [defs_eq]
  exact Ring.run_main (F := F) m ρ

end Cert.Proof.Same

end
-- ==== Proof.Value.lean ====
module

public import proofs.«01_k».proof.Proof.Launch
public import proofs.«01_k».proof.Proof.Gen.ReferenceIdeal.Run
public import Idealize.ShloMosaic.Lib.MatmulPlain
public import Idealize.ShloMosaic.Lib.IdealHost
public import Idealize.ShloMosaic.Lib.Layout

@[expose] public section

noncomputable section

namespace Cert.Proof.Ring

open Idealize.ShloMosaic Idealize.ShloMosaic.TcCoe Idealize.ShloMosaic.ValueIdx
open scoped BigOperators

/-! ## The result array after the run -/

section Any

open Cert.KernelIdeal Cert.KernelIdeal.Gen
variable {F : FTy → Type} [FloatOps F]
variable (m : (ℓ : Loc nD τ sig) → Buf (Elt F) ℓ) (ρ : Dev nD → PrngReg)

/-- The block that is written back sits in the array at offset zero: each place at itself. -/
theorem blk_emb (y : S4096x1024.Idx) : ((cfg0.win 2).blk t0_0).view.emb y = y := by
  funext a; apply Fin.ext
  match a with
  | ⟨0, _⟩ => show 0 * 4096 + 1 * (y 0).val = (y 0).val; omega
  | ⟨1, _⟩ => show 0 * 1024 + 1 * (y 1).val = (y 1).val; omega

/-- The one block that is written back is the whole result, and it holds every tile. -/
theorem finalA_2 (c : Dev nD) : finalA m ρ c (2 : Fin 3) = outFull m c :=
  (dats m ρ 0 c).arrAt_eq_of_cover (2 : Fin 3) (outFull m c)
    (fun t _ => by
      obtain rfl := fin_N0 t
      funext y
      exact (congrArg (outFull m c) (blk_emb y)).symm)
    (fun i => ⟨t0_0, flush0_2 _, by
      have h : ((cfg0.win 2).blk t0_0).view.emb i ∈ ((cfg0.win 2).blk t0_0).view.set := View.emb_mem_set _ _
      rwa [blk_emb] at h⟩)

/-- A half of a device's block of `x`, read at a row and a column: the bottom half starts at row 256. -/
theorem xHalf_apply (h : Fin 2) (o : Dev nD) (r : Fin 256) (k : Fin 4096) :
    xHalf m h o (ix2 r k)
      = (m ((o : Thread nD τ).loc main_arg0) : S512x4096.Idx → Elt F .f32) (ix2 ⟨256 * h.val + r.val, by omega⟩ k) := by
  match h with
  | 0 =>
    refine congrArg (m ((o : Thread nD τ).loc main_arg0) : S512x4096.Idx → Elt F .f32) ?_
    funext a; apply Fin.ext
    match a with
    | ⟨0, _⟩ => show 0 + 1 * r.val = 256 * 0 + r.val; omega
    | ⟨1, _⟩ => show 0 + 1 * k.val = k.val; omega
  | 1 =>
    refine congrArg (m ((o : Thread nD τ).loc main_arg0) : S512x4096.Idx → Elt F .f32) ?_
    funext a; apply Fin.ext
    match a with
    | ⟨0, _⟩ => show 256 + 1 * r.val = 256 * 1 + r.val; omega
    | ⟨1, _⟩ => show 0 + 1 * k.val = k.val; omega

end Any

/-! ## The reference's result, read at an index -/

section Ref

open Cert.ReferenceIdeal Cert.ReferenceIdeal.Gen

/-- The reference's result, as its run states it, of whole arrays. -/
def refOut (X : FVec Ideal S4096x4096 .f32) (W : FVec Ideal S4096x8192 .f32) (sx sw : FVec Ideal S1 .f32) :
    FVec Ideal S4096x8192 .f32 :=
  maximumf (mulf (Host.dotGeneral dot_S4096x4096_S4096x8192_S4096x8192_1_0_0_1_n_n none X W)
      (broadcastInDim S4096x8192 ![0, 1] bcast_S1x1_S4096x8192_0_1 (broadcastInDim S1x1 ![1] bcast_S1_S1x1_1 (mulf sx sw))))
    (broadcastInDim S4096x8192 ![] bcast_S_S4096x8192 (constant S_ .f32 0x00000000#32))

/-- The reference's product at a row and a column is the sum over the 4096 inner positions. -/
theorem dot_ref (X : FVec Ideal S4096x4096 .f32) (W : FVec Ideal S4096x8192 .f32) (r : Fin 4096) (l : Fin 8192) :
    Host.dotGeneral dot_S4096x4096_S4096x8192_S4096x8192_1_0_0_1_n_n none X W (ix2 r l)
      = ∑ k : Fin 4096, X (ix2 r k) * W (ix2 k l) := by
  have h := Ideal.matmul_plain_apply (M := 4096) (K := 4096) (N := 8192) none X W (fun _ => 0) r l
  rw [zero_add] at h
  exact h

/-- The reference's result at a row and a column: the sum, times the product of the scales, cut at zero. -/
theorem refOut_apply (X : FVec Ideal S4096x4096 .f32) (W : FVec Ideal S4096x8192 .f32) (sx sw : FVec Ideal S1 .f32)
    (r : Fin 4096) (l : Fin 8192) :
    refOut X W sx sw (ix2 r l)
      = max ((∑ k : Fin 4096, (X (ix2 r k) * W (ix2 k l) : EReal)) * ((sx (ix1 0) * sw (ix1 0) : EReal))) (Ideal.ofBits .f32 0x00000000#32) := by
  rw [← dot_ref]
  have e : ∀ i : S1.Idx, i = ix1 0 := fun i => by
    funext a; apply Fin.ext
    match a with
    | ⟨0, _⟩ => have := (i 0).isLt; show (i 0).val = 0; simp at this; omega
  exact congrArg (fun i => max (Host.dotGeneral dot_S4096x4096_S4096x8192_S4096x8192_1_0_0_1_n_n none X W (ix2 r l)
    * (sx i * sw i : EReal)) (Ideal.ofBits .f32 0x00000000#32)) (e _)

end Ref

/-! ## Over the extended reals the kernel's result is the reference's -/

section Kernel

open Cert.KernelIdeal Cert.KernelIdeal.Gen

variable (m : (ℓ : Loc nD τ sig) → Buf (Elt Ideal) ℓ)

/-- The kernel's tile at a row and a column: the same sum over the rows of the half, times the scale, cut at zero. -/
theorem tile_apply (v : Ideal .f32) (X : FVec Ideal S256x4096 .fp8e4m3) (W : FVec Ideal S4096x1024 .fp8e4m3)
    (r : Fin 256) (l : Fin 1024) :
    tile (F := Ideal) v X W (ix2 r l)
      = max ((∑ k : Fin 4096, (X (ix2 r k) * W (ix2 k l) : EReal)) * (v : EReal)) (Ideal.ofBits .f32 0x00000000#32) := by
  have h := Ideal.matmul_plain_apply (M := 256) (K := 4096) (N := 1024) none X W (constant S256x1024 .f32 0x00000000#32) r l
  rw [show (constant S256x1024 .f32 0x00000000#32 : FVec Ideal S256x1024 .f32) (ix2 r l) = 0 from Ideal.ofBits_zero_f32, zero_add] at h
  rw [← h]
  rfl

/-- Device `c`'s result is block `c`, by columns, of the reference's result of the whole arrays, when each device holds
    its block of rows of `x` and the whole of the weights and of the scales. -/
theorem outFull_block (X : FVec Ideal Cert.ReferenceIdeal.S4096x4096 .f32) (W : FVec Ideal Cert.ReferenceIdeal.S4096x8192 .f32)
    (sx sw : FVec Ideal Cert.ReferenceIdeal.S1 .f32)
    (hX : ∀ o : Dev nD, m ((o : Thread nD τ).loc main_arg0) = Layout.block ⟨2, ![512, 4096]⟩ ⟨2, ![4096, 4096]⟩ 0 8 o X)
    (c : Dev nD) (hW : m ((c : Thread nD τ).loc main_arg1) = W)
    (hsx : m ((c : Thread nD τ).loc main_arg2) = sx) (hsw : m ((c : Thread nD τ).loc main_arg3) = sw) :
    outFull m c = Layout.block ⟨2, ![4096, 1024]⟩ ⟨2, ![4096, 8192]⟩ 1 8 c (refOut X W sx sw) := by
  subst hW hsx hsw
  funext y
  obtain ⟨r, l, rfl⟩ : ∃ (r : Fin 4096) (l : Fin 1024), y = ix2 r l := ⟨y 0, y 1, eq_ix2 y⟩
  have hc : c.val < 8 := c.isLt
  have hi : (show Layout.Tiles ⟨2, ![4096, 1024]⟩ ⟨2, ![4096, 8192]⟩ 1 8 by decide).idx c (ix2 r l)
      = ix2 r ⟨1024 * c.val + l.val, by omega⟩ := by
    funext a; apply Fin.ext
    match a with
    | ⟨0, _⟩ => rfl
    | ⟨1, _⟩ => show c.val * 1024 + l.val = 1024 * c.val + l.val; omega
  rw [Layout.block_apply, hi, refOut_apply]
  have ho : r.val / 512 < 8 := by omega
  have hh : r.val % 512 / 256 < 2 := by omega
  show tile (scale m c) (half m ⟨r.val % 512 / 256, hh⟩ ⟨r.val / 512, ho⟩) (wCols m c) (ix2 ⟨r.val % 256, by omega⟩ l) = _
  rw [tile_apply]
  refine congrArg (fun u : EReal => max (u * _) _) (Finset.sum_congr rfl fun k _ => ?_)
  refine congrArg (fun u : EReal => u * _) ?_
  show xHalf m ⟨r.val % 512 / 256, hh⟩ ⟨r.val / 512, ho⟩ (ix2 ⟨r.val % 256, by omega⟩ k) = _
  rw [xHalf_apply, hX]
  refine congrArg X ?_
  funext a; apply Fin.ext
  match a with
  | ⟨0, _⟩ => show r.val / 512 * 512 + (256 * (r.val % 512 / 256) + r.val % 256) = r.val; omega
  | ⟨1, _⟩ => rfl

end Kernel

end Cert.Proof.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

/-- The idealized kernel runs to the end from any memory, leaves its four arguments as they were and every semaphore at
    zero. -/
theorem frame_ideal : Cert.quiescent_KernelIdeal := fun m ρ _ =>
  (θ_run Cert.KernelIdeal.defs _ _).mono
    (fun _ h => ⟨fun c => ⟨(h.1 c).2.1, (h.1 c).2.2, ((h.1 c).1 0).trans (Ring.finalA_0 m ρ c), ((h.1 c).1 1).trans (Ring.finalA_1 m ρ c)⟩, h.2⟩)
    (Ring.run_main (F := Ideal) m ρ)

/-- The same of the kernel as printed, whose text is the idealized one's: the run is stated over any float values. -/
theorem frame_kernel : Cert.quiescent_Kernel := fun m ρ _ =>
  (θ_run Cert.Kernel.defs _ _).mono
    (fun _ h => ⟨fun c => ⟨(h.1 c).2.1, (h.1 c).2.2, ((h.1 c).1 0).trans (Ring.finalA_0 (F := Bits) m ρ c),
      ((h.1 c).1 1).trans (Ring.finalA_1 (F := Bits) m ρ c)⟩, h.2⟩)
    (Same.run_kernel (F := Bits) m ρ)

/-- The reference runs to the end and leaves its arguments as they were; it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals each device ends with its block of columns of the reference's result. -/
theorem value : Cert.algebraic_KernelIdeal_ReferenceIdeal := fun m ρ m' ρ' _ hagree =>
  ⟨Ring.refOut (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3)),
    (θ_run Cert.KernelIdeal.defs _ _).mono
      (fun _ h c => ⟨(((h.1 c).1 2).trans (Ring.finalA_2 m ρ c)).trans
          (Ring.outFull_block m _ _ _ _ (fun o => (hagree o).1) c (hagree c).2.1 (hagree c).2.2.1 (hagree c).2.2.2),
        (h.1 c).2.1, (h.1 c).2.2, ((h.1 c).1 0).trans (Ring.finalA_0 m ρ c), ((h.1 c).1 1).trans (Ring.finalA_1 m ρ c)⟩)
      (Ring.run_main (F := Ideal) m ρ),
    (θ_run Cert.ReferenceIdeal.defs _ _).mono (fun _ h => h 0) (Cert.ReferenceIdeal.Value.run (F := Ideal) m' ρ')⟩

/-- The five claims together, under the programs' stated facts. -/
theorem claim : Cert.Claim :=
  ⟨Cert.Kernel.Gen.facts, Cert.KernelIdeal.Gen.facts, Cert.ReferenceIdeal.Gen.facts,
    frame_kernel, frame_ideal, frame_reference, trivial, value⟩

end Cert.Proof

end
